-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_values [hPre_bf16_values : Cert.Pre_bf16_values.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_values [hPre_bf16_values : Cert.Pre_bf16_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bf16_values [hKernelIdeal : Cert.KernelIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bf16_values [hReferenceIdeal : Cert.ReferenceIdeal.Facts] [hPre_bf16_values : Cert.Pre_bf16_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bf16_values [hKernelIdeal : Cert.KernelIdeal.Facts] [hReferenceIdeal : Cert.ReferenceIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bf16_values : Cert.Pre_bf16_values.Facts),
    quiescent_Kernel (hKernel := hKernel)
    ∧ quiescent_KernelIdeal (hKernelIdeal := hKernelIdeal)
    ∧ quiescent_KernelIdeal_pre_bf16_values (hKernelIdeal := hKernelIdeal) (hPre_bf16_values := hPre_bf16_values)
    ∧ quiescent_ReferenceIdeal (hReferenceIdeal := hReferenceIdeal)
    ∧ quiescent_ReferenceIdeal_pre_bf16_values (hReferenceIdeal := hReferenceIdeal) (hPre_bf16_values := hPre_bf16_values)
    ∧ preserves_Kernel_KernelIdeal
    ∧ algebraic_KernelIdeal_ReferenceIdeal_pre_bf16_values (hKernelIdeal := hKernelIdeal) (hReferenceIdeal := hReferenceIdeal) (hPre_bf16_values := hPre_bf16_values)
-- ==== Pre_bf16_values.lean ====
abbrev S1x256x5504 : Shape := ⟨3, ![1, 256, 5504]⟩
abbrev S3584x2752 : Shape := ⟨2, ![3584, 2752]⟩
abbrev S3584x43 : Shape := ⟨2, ![3584, 43]⟩
abbrev S_ : Shape := ⟨0, ![]⟩

class Facts : Prop where
  bitsLt_bf16_f32 : FTy.bits .bf16 < FTy.bits .f32
  bcast_S_S1x256x5504 : S_.BroadcastsInDim S1x256x5504 (![] : Fin 0 → Fin S1x256x5504.rank)
  reducesTo_S1x256x5504_S_d0_1_2 : S1x256x5504.ReducesTo [0, 1, 2] S_
  h_S_ : 0 < S_.numel

variable [Facts]

def fn {F : FTy → Type} [FloatOps F] (main_arg0 : FVec F S1x256x5504 .bf16) (main_arg1 : IVec S3584x2752 8) (main_arg2 : FVec F S3584x43 .f32) : IVec S_ 1 :=
  let main_v0 : FVec F S1x256x5504 .f32 := (extf .f32 · bitsLt_bf16_f32) main_arg0
  let main_v1 : FVec F S1x256x5504 .f32 := Host.absf main_v0
  let main_cst : FVec F S_ .f32 := constant S_ .f32 0x7F7F0000#32
  let main_v2 : FVec F S1x256x5504 .f32 := broadcastInDim S1x256x5504 ![] bcast_S_S1x256x5504 main_cst
  let main_v3 : IVec S1x256x5504 1 := cmpf .ole main_v1 main_v2
  let main_cst_0 : FVec F S_ .f32 := constant S_ .f32 0x7F800000#32
  let main_v4 : FVec F S1x256x5504 .f32 := broadcastInDim S1x256x5504 ![] bcast_S_S1x256x5504 main_cst_0
  let main_v5 : IVec S1x256x5504 1 := cmpf .oeq main_v1 main_v4
  let main_v6 : IVec S1x256x5504 1 := ori main_v3 main_v5
  let main_c : IVec S_ 1 := constantI S_ 1 1#1
  let main_v7 : IVec S_ 1 := (fun x v => Host.reduce IntOp.andi x v reducesTo_S1x256x5504_S_d0_1_2 h_S_) main_v6 main_c
  main_v7
-- ==== Kernel.lean ====
abbrev S1x256x5504 : Shape := ⟨3, ![1, 256, 5504]⟩
abbrev S3584x2752 : Shape := ⟨2, ![3584, 2752]⟩
abbrev S3584x43 : Shape := ⟨2, ![3584, 43]⟩
abbrev S256x5504 : Shape := ⟨2, ![256, 5504]⟩
abbrev S2752x3584 : Shape := ⟨2, ![2752, 3584]⟩
abbrev S43x3584 : Shape := ⟨2, ![43, 3584]⟩
abbrev S256x3584 : Shape := ⟨2, ![256, 3584]⟩
abbrev S1x256 : Shape := ⟨2, ![1, 256]⟩
abbrev S2752x512 : Shape := ⟨2, ![2752, 512]⟩
abbrev S43x512 : Shape := ⟨2, ![43, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x255 : Shape := ⟨2, ![256, 255]⟩
abbrev S128x256 : Shape := ⟨2, ![128, 256]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩

abbrev nBuf : Space → Nat
  | .hbm => 9
  | .vmem => 11
  | .smem => 0
  | _ => 0

abbrev bufTy : (tb : Table) → Fin (tcTables nBuf tb) → BufTy
  | .hbm, ⟨0, _⟩ => ⟨S1x256x5504, .bf16⟩
  | .hbm, ⟨1, _⟩ => ⟨S3584x2752, .i8⟩
  | .hbm, ⟨2, _⟩ => ⟨S3584x43, .f32⟩
  | .hbm, ⟨3, _⟩ => ⟨S256x5504, .bf16⟩
  | .hbm, ⟨4, _⟩ => ⟨S2752x3584, .i8⟩
  | .hbm, ⟨5, _⟩ => ⟨S43x3584, .f32⟩
  | .hbm, ⟨6, _⟩ => ⟨S256x3584, .bf16⟩
  | .hbm, ⟨7, _⟩ => ⟨S256x5504, .fp8e4m3⟩
  | .hbm, ⟨8, _⟩ => ⟨S1x256, .f32⟩
  | .local _ .vmem, ⟨0, _⟩ => ⟨S256x5504, .bf16⟩
  | .local _ .vmem, ⟨1, _⟩ => ⟨S2752x512, .i8⟩
  | .local _ .vmem, ⟨2, _⟩ => ⟨S2752x512, .i8⟩
  | .local _ .vmem, ⟨3, _⟩ => ⟨S43x512, .f32⟩
  | .local _ .vmem, ⟨4, _⟩ => ⟨S43x512, .f32⟩
  | .local _ .vmem, ⟨5, _⟩ => ⟨S256x512, .bf16⟩
  | .local _ .vmem, ⟨6, _⟩ => ⟨S256x512, .bf16⟩
  | .local _ .vmem, ⟨7, _⟩ => ⟨S256x5504, .fp8e4m3⟩
  | .local _ .vmem, ⟨8, _⟩ => ⟨S1x256, .f32⟩
  | .local _ .vmem, ⟨9, _⟩ => ⟨S256x128, .f32⟩
  | .local _ .vmem, ⟨10, _⟩ => ⟨S256x512, .f32⟩
  | _, _ => ⟨S1x256x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5504 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2752x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S43x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x5504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x256x5504 : Shape := ⟨3, ![1, 256, 5504]⟩
abbrev S3584x2752 : Shape := ⟨2, ![3584, 2752]⟩
abbrev S3584x43 : Shape := ⟨2, ![3584, 43]⟩
abbrev S_ : Shape := ⟨0, ![]⟩
abbrev S3584x2752x1 : Shape := ⟨3, ![3584, 2752, 1]⟩
abbrev S3584x2752x2 : Shape := ⟨3, ![3584, 2752, 2]⟩
abbrev S3584x5504 : Shape := ⟨2, ![3584, 5504]⟩
abbrev S256x3584 : Shape := ⟨2, ![256, 3584]⟩
abbrev S256x5504 : Shape := ⟨2, ![256, 5504]⟩
abbrev S1x256 : Shape := ⟨2, ![1, 256]⟩
abbrev S1x256x1 : Shape := ⟨3, ![1, 256, 1]⟩
abbrev S256x43x128 : Shape := ⟨3, ![256, 43, 128]⟩
abbrev S3584x43x128 : Shape := ⟨3, ![3584, 43, 128]⟩
abbrev S43x256x3584 : Shape := ⟨3, ![43, 256, 3584]⟩
abbrev S3584x256 : Shape := ⟨2, ![3584, 256]⟩
abbrev S256x1 : Shape := ⟨2, ![256, 1]⟩

abbrev nBuf : Space → Nat
  | .hbm => 31
  | .vmem => 6
  | .smem => 0
  | _ => 0

abbrev bufTy : (tb : Table) → Fin (tcTables nBuf tb) → BufTy
  | .hbm, ⟨0, _⟩ => ⟨S1x256x5504, .bf16⟩
  | .hbm, ⟨1, _⟩ => ⟨S3584x2752, .i8⟩
  | .hbm, ⟨2, _⟩ => ⟨S3584x43, .f32⟩
  | .hbm, ⟨3, _⟩ => ⟨S3584x2752, .i32⟩
  | .hbm, ⟨4, _⟩ => ⟨S_, .i32⟩
  | .hbm, ⟨5, _⟩ => ⟨S3584x2752, .i32⟩
  | .hbm, ⟨6, _⟩ => ⟨S3584x2752, .i32⟩
  | .hbm, ⟨7, _⟩ => ⟨S_, .i32⟩
  | .hbm, ⟨8, _⟩ => ⟨S3584x2752, .i32⟩
  | .hbm, ⟨9, _⟩ => ⟨S3584x2752, .i32⟩
  | .hbm, ⟨10, _⟩ => ⟨S_, .i32⟩
  | .hbm, ⟨11, _⟩ => ⟨S3584x2752, .i32⟩
  | .hbm, ⟨12, _⟩ => ⟨S3584x2752, .i1⟩
  | .hbm, ⟨13, _⟩ => ⟨S_, .i32⟩
  | .hbm, ⟨14, _⟩ => ⟨S3584x2752, .i32⟩
  | .hbm, ⟨15, _⟩ => ⟨S3584x2752, .i32⟩
  | .hbm, ⟨16, _⟩ => ⟨S3584x2752, .i32⟩
  | .hbm, ⟨17, _⟩ => ⟨S_, .i32⟩
  | .hbm, ⟨18, _⟩ => ⟨S3584x2752, .i32⟩
  | .hbm, ⟨19, _⟩ => ⟨S3584x2752, .i1⟩
  | .hbm, ⟨20, _⟩ => ⟨S_, .i32⟩
  | .hbm, ⟨21, _⟩ => ⟨S3584x2752, .i32⟩
  | .hbm, ⟨22, _⟩ => ⟨S3584x2752, .i32⟩
  | .hbm, ⟨23, _⟩ => ⟨S3584x2752, .i32⟩
  | .hbm, ⟨24, _⟩ => ⟨S3584x2752x1, .i32⟩
  | .hbm, ⟨25, _⟩ => ⟨S3584x2752x1, .i32⟩
  | .hbm, ⟨26, _⟩ => ⟨S3584x2752x2, .i32⟩
  | .hbm, ⟨27, _⟩ => ⟨S3584x5504, .i32⟩
  | .hbm, ⟨28, _⟩ => ⟨S256x3584, .bf16⟩
  | .hbm, ⟨29, _⟩ => ⟨S256x5504, .fp8e4m3⟩
  | .hbm, ⟨30, _⟩ => ⟨S1x256, .f32⟩
  | .local _ .vmem, ⟨0, _⟩ => ⟨S1x256x5504, .bf16⟩
  | .local _ .vmem, ⟨1, _⟩ => ⟨S3584x5504, .i32⟩
  | .local _ .vmem, ⟨2, _⟩ => ⟨S3584x43, .f32⟩
  | .local _ .vmem, ⟨3, _⟩ => ⟨S256x3584, .bf16⟩
  | .local _ .vmem, ⟨4, _⟩ => ⟨S256x5504, .fp8e4m3⟩
  | .local _ .vmem, ⟨5, _⟩ => ⟨S1x256, .f32⟩
  | _, _ => ⟨S1x256x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x256x5504 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x5504 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x43 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x5504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Val

open Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The 128 weight codes of a group for 512 output channels: of each packed byte the low nibble, then the high one,
    sign-extended and turned into fp8. -/
def wcodes (w : Vec F S64x512 .i8) : FVec F S128x512 .fp8e4m3 :=
  truncf .fp8e4m3
    (sitofp .bf16
      (shapeCast S128x512
        (concatenate S64x2x512 1
          [⟨S64x1x512, shapeCast S64x1x512
              (shrsi (shli (extui 32 (w : IVec S64x512 8) natLt_8_32) (broadcast S64x512 28#32)) (broadcast S64x512 28#32))
              shapeCasts_S64x512_S64x1x512⟩,
           ⟨S64x1x512, shapeCast S64x1x512
              (shrsi (shli (extui 32 (w : IVec S64x512 8) natLt_8_32) (broadcast S64x512 24#32)) (broadcast S64x512 28#32))
              shapeCasts_S64x512_S64x1x512⟩]
          concatenates_S64x1x512_S64x1x512_S64x2x512_d1)
        shapeCasts_S64x2x512_S128x512))
    bitsLt_fp8e4m3_bf16

/-- A group's term: the product of the group's activation codes with its weight codes, times the group's scales. -/
def grp (x : Vec F S256x128 .fp8e4m3) (w : Vec F S64x512 .i8) (s : Vec F S1x512 .f32) : FVec F S256x512 .f32 :=
  mulf
    (matmul dot_S256x128_S128x512_S256x512_1_0_0_1_n_n none x (wcodes w) (constant S256x512 .f32 0x00000000#32))
    (broadcastTo S256x512 s broadcasts_S1x512_S256x512)

theorem inbX (o : Nat) (h : o + 128 ≤ 5504) : ∀ a, (![0, o] : Fin 2 → Nat) a + S256x128.size a ≤ S256x5504.size a := by
  intro a; fin_cases a
  · exact (by decide : 0 + 256 ≤ 256)
  · exact h
theorem inbW (o : Nat) (h : o + 64 ≤ 2752) : ∀ a, (![o, 0] : Fin 2 → Nat) a + S64x512.size a ≤ S2752x512.size a := by
  intro a; fin_cases a
  · exact h
  · exact (by decide : 0 + 512 ≤ 512)
theorem inbS (o : Nat) (h : o + 1 ≤ 43) : ∀ a, (![o, 0] : Fin 2 → Nat) a + S1x512.size a ≤ S43x512.size a := by
  intro a; fin_cases a
  · exact h
  · exact (by decide : 0 + 512 ≤ 512)

/-- Group `g`'s term, cut out of the whole blocks. -/
def term (xc : Vec F S256x5504 .fp8e4m3) (x1 : Vec F S2752x512 .i8) (x2 : Vec F S43x512 .f32) (g : Nat) (hg : g < 43) : FVec F S256x512 .f32 :=
  grp (VecWindow.window xc ![0, 128 * g] S256x128.size (inbX _ (by omega)))
    (VecWindow.window x1 ![64 * g, 0] S64x512.size (inbW _ (by omega)))
    (VecWindow.window x2 ![g, 0] S1x512.size (inbS _ (by omega)))

/-- The accumulator after group `g`. -/
def acc (xc : Vec F S256x5504 .fp8e4m3) (x1 : Vec F S2752x512 .i8) (x2 : Vec F S43x512 .f32) : (g : Nat) → g < 43 → FVec F S256x512 .f32
  | 0, h => term xc x1 x2 0 h
  | g + 1, h => addf (acc xc x1 x2 g (Nat.lt_of_succ_lt h)) (term xc x1 x2 (g + 1) h)

/-- The block of the first result: the scaled accumulator through the activation function. -/
def yBlock (xc : Vec F S256x5504 .fp8e4m3) (rep : Vec F S256x128 .f32) (x1 : Vec F S2752x512 .i8) (x2 : Vec F S43x512 .f32) : FVec F S256x512 .bf16 :=
  k0_pay1 (k0_pay118 rep (acc xc x1 x2 42 (by decide))) k0_pay119

/-- A load at a unit-stride rectangle reads a window of what the view reads. -/
theorem ld_unit {κ : Kind} {sp : Space} {s : Shape} {e : EltTy} (v : View sig κ sp s e) {f : v.ty.Contents (Elt F)} {x : s.Idx → Elt F e}
    (h : v.read (Elt F) f = x) {off size : Fin s.rank → ℕ} (inb : ∀ a, off a + size a ≤ s.size a) :
    v.readAt (Elt F) (Rect.unit off size inb).toLoadRect f = VecWindow.window x off size inb := by subst h; rfl

/-- A whole load reads what the view reads. -/
theorem ld_full {κ : Kind} {sp : Space} {s : Shape} {e : EltTy} (v : View sig κ sp s e) {f : v.ty.Contents (Elt F)} {x : s.Idx → Elt F e}
    (h : v.read (Elt F) f = x) {off : Fin s.rank → ℕ} (inb : ∀ a, off a + s.size a ≤ s.size a) :
    v.readAt (Elt F) (Rect.unit off s.size inb).toLoadRect f = x := by subst h; exact View.readAt_full v f inb

/-- A load at a unit-stride rectangle after a store of the whole view reads a window of the stored values. -/
theorem ldc_unit {κ : Kind} {sp : Space} {s : Shape} {e : EltTy} (v : View sig κ sp s e) {off' : Fin s.rank → ℕ}
    (inb' : ∀ a, off' a + s.size a ≤ s.size a) (x : (Rect.unit off' s.size inb').shape.Idx → Elt F e)
    (L : List (View.Piece (Elt F) s e)) {off size : Fin s.rank → ℕ} (inb : ∀ a, off a + size a ≤ s.size a) :
    v.readCov (⟨Rect.unit off' s.size inb', x⟩ :: L) (Rect.unit off size inb).toLoadRect = VecWindow.window (s := s) x off size inb :=
  ld_unit v (View.read_writes_full v v.junk inb' x L) inb

/-- The codes of the activations. -/
def codes (x0 : Vec F S256x5504 .bf16) : FVec F S256x5504 .fp8e4m3 := k0_pay6 (k0_pay2 x0) (k0_pay5 x0)
/-- The scales of the tokens, each on 128 lanes. -/
def rep (x0 : Vec F S256x5504 .bf16) : FVec F S256x128 .f32 := k0_pay8 (k0_pay4 x0)
/-- The scales of the tokens, as a row. -/
def row (x0 : Vec F S256x5504 .bf16) : FVec F S1x256 .f32 := k0_pay9 (k0_pay4 x0)

theorem pay_g0 (x : Vec F S256x128 .fp8e4m3) (w : Vec F S64x512 .i8) (s : Vec F S1x512 .f32) :
    k0_pay10 x w s = grp x w s := by
  unfold k0_pay10 grp wcodes
  dsimp only
  repeat rw [shapeCast_self]
  try rfl
theorem pay_g1 (x : Vec F S256x128 .fp8e4m3) (w : Vec F S64x512 .i8) (s : Vec F S1x512 .f32) (a : Vec F S256x512 .f32) :
    k0_pay14 (k0_pay11 x) (k0_pay12 w) (k0_pay13 w) s a = addf a (grp x w s) := by
  unfold k0_pay14 k0_pay13 k0_pay12 k0_pay11 grp wcodes
  dsimp only
  repeat rw [shapeCast_self]
  try rfl
theorem pay_g2 (x : Vec F S256x128 .fp8e4m3) (w : Vec F S64x512 .i8) (s : Vec F S1x512 .f32) (a : Vec F S256x512 .f32) :
    k0_pay17 (k0_pay15 x) (k0_pay16 w) s a = addf a (grp x w s) := by
  unfold k0_pay17 k0_pay15 k0_pay16 grp wcodes
  dsimp only
  repeat rw [shapeCast_self]
  try rfl
theorem pay_g3 (x : Vec F S256x128 .fp8e4m3) (w : Vec F S64x512 .i8) (s : Vec F S1x512 .f32) (a : Vec F S256x512 .f32) :
    k0_pay19 (k0_pay18 x w s a) = addf a (grp x w s) := by
  unfold k0_pay19 k0_pay18 grp wcodes
  dsimp only
  repeat rw [shapeCast_self]
  try rfl
theorem pay_g4 (x : Vec F S256x128 .fp8e4m3) (w : Vec F S64x512 .i8) (s : Vec F S1x512 .f32) (a : Vec F S256x512 .f32) :
    k0_pay20 x w s a = addf a (grp x w s) := by
  unfold k0_pay20 grp wcodes
  dsimp only
  repeat rw [shapeCast_self]
  try rfl
theorem pay_g5 (x : Vec F S256x128 .fp8e4m3) (w : Vec F S64x512 .i8) (s : Vec F S1x512 .f32) (a : Vec F S256x512 .f32) :
    k0_pay24 (k0_pay21 x) (k0_pay22 w) (k0_pay23 w) s a = addf a (grp x w s) := by
  unfold k0_pay24 k0_pay23 k0_pay22 k0_pay21 grp wcodes
  dsimp only
  repeat rw [shapeCast_self]
  try rfl
theorem pay_g6 (x : Vec F S256x128 .fp8e4m3) (w : Vec F S64x512 .i8) (s : Vec F S1x512 .f32) (a : Vec F S256x512 .f32) :
    k0_pay27 (k0_pay25 x) (k0_pay26 w) s a = addf a (grp x w s) := by
  unfold k0_pay27 k0_pay25 k0_pay26 grp wcodes
  dsimp only
  repeat rw [shapeCast_self]
  try rfl
theorem pay_g7 (x : Vec F S256x128 .fp8e4m3) (w : Vec F S64x512 .i8) (s : Vec F S1x512 .f32) (a : Vec F S256x512 .f32) :
    k0_pay29 (k0_pay28 x w s a) = addf a (grp x w s) := by
  unfold k0_pay29 k0_pay28 grp wcodes
  dsimp only
  repeat rw [shapeCast_self]
  try rfl
theorem pay_g8 (x : Vec F S256x128 .fp8e4m3) (w : Vec F S64x512 .i8) (s : Vec F S1x512 .f32) (a : Vec F S256x512 .f32) :
    k0_pay30 x w s a = addf a (grp x w s) := by
  unfold k0_pay30 grp wcodes
  dsimp only
  repeat rw [shapeCast_self]
  try rfl
theorem pay_g9 (x : Vec F S256x128 .fp8e4m3) (w : Vec F S64x512 .i8) (s : Vec F S1x512 .f32) (a : Vec F S256x512 .f32) :
    k0_pay34 (k0_pay31 x) (k0_pay32 w) (k0_pay33 w) s a = addf a (grp x w s) := by
  unfold k0_pay34 k0_pay33 k0_pay32 k0_pay31 grp wcodes
  dsimp only
  repeat rw [shapeCast_self]
  try rfl
theorem pay_g10 (x : Vec F S256x128 .fp8e4m3) (w : Vec F S64x512 .i8) (s : Vec F S1x512 .f32) (a : Vec F S256x512 .f32) :
    k0_pay37 (k0_pay35 x) (k0_pay36 w) s a = addf a (grp x w s) := by
  unfold k0_pay37 k0_pay35 k0_pay36 grp wcodes
  dsimp only
  repeat rw [shapeCast_self]
  try rfl
theorem pay_g11 (x : Vec F S256x128 .fp8e4m3) (w : Vec F S64x512 .i8) (s : Vec F S1x512 .f32) (a : Vec F S256x512 .f32) :
    k0_pay39 (k0_pay38 x w s a) = addf a (grp x w s) := by
  unfold k0_pay39 k0_pay38 grp wcodes
  dsimp only
  repeat rw [shapeCast_self]
  try rfl
theorem pay_g12 (x : Vec F S256x128 .fp8e4m3) (w : Vec F S64x512 .i8) (s : Vec F S1x512 .f32) (a : Vec F S256x512 .f32) :
    k0_pay40 x w s a = addf a (grp x w s) := by
  unfold k0_pay40 grp wcodes
  dsimp only
  repeat rw [shapeCast_self]
  try rfl
theorem pay_g13 (x : Vec F S256x128 .fp8e4m3) (w : Vec F S64x512 .i8) (s : Vec F S1x512 .f32) (a : Vec F S256x512 .f32) :
    k0_pay44 (k0_pay41 x) (k0_pay42 w) (k0_pay43 w) s a = addf a (grp x w s) := by
  unfold k0_pay44 k0_pay43 k0_pay42 k0_pay41 grp wcodes
  dsimp only
  repeat rw [shapeCast_self]
  try rfl
theorem pay_g14 (x : Vec F S256x128 .fp8e4m3) (w : Vec F S64x512 .i8) (s : Vec F S1x512 .f32) (a : Vec F S256x512 .f32) :
    k0_pay47 (k0_pay45 x) (k0_pay46 w) s a = addf a (grp x w s) := by
  unfold k0_pay47 k0_pay45 k0_pay46 grp wcodes
  dsimp only
  repeat rw [shapeCast_self]
  try rfl
theorem pay_g15 (x : Vec F S256x128 .fp8e4m3) (w : Vec F S64x512 .i8) (s : Vec F S1x512 .f32) (a : Vec F S256x512 .f32) :
    k0_pay49 (k0_pay48 x w s a) = addf a (grp x w s) := by
  unfold k0_pay49 k0_pay48 grp wcodes
  dsimp only
  repeat rw [shapeCast_self]
  try rfl
theorem pay_g16 (x : Vec F S256x128 .fp8e4m3) (w : Vec F S64x512 .i8) (s : Vec F S1x512 .f32) (a : Vec F S256x512 .f32) :
    k0_pay50 x w s a = addf a (grp x w s) := by
  unfold k0_pay50 grp wcodes
  dsimp only
  repeat rw [shapeCast_self]
  try rfl
theorem pay_g17 (x : Vec F S256x128 .fp8e4m3) (w : Vec F S64x512 .i8) (s : Vec F S1x512 .f32) (a : Vec F S256x512 .f32) :
    k0_pay54 (k0_pay51 x) (k0_pay52 w) (k0_pay53 w) s a = addf a (grp x w s) := by
  unfold k0_pay54 k0_pay53 k0_pay52 k0_pay51 grp wcodes
  dsimp only
  repeat rw [shapeCast_self]
  try rfl
theorem pay_g18 (x : Vec F S256x128 .fp8e4m3) (w : Vec F S64x512 .i8) (s : Vec F S1x512 .f32) (a : Vec F S256x512 .f32) :
    k0_pay57 (k0_pay55 x) (k0_pay56 w) s a = addf a (grp x w s) := by
  unfold k0_pay57 k0_pay55 k0_pay56 grp wcodes
  dsimp only
  repeat rw [shapeCast_self]
  try rfl
theorem pay_g19 (x : Vec F S256x128 .fp8e4m3) (w : Vec F S64x512 .i8) (s : Vec F S1x512 .f32) (a : Vec F S256x512 .f32) :
    k0_pay59 (k0_pay58 x w s a) = addf a (grp x w s) := by
  unfold k0_pay59 k0_pay58 grp wcodes
  dsimp only
  repeat rw [shapeCast_self]
  try rfl
theorem pay_g20 (x : Vec F S256x128 .fp8e4m3) (w : Vec F S64x512 .i8) (s : Vec F S1x512 .f32) (a : Vec F S256x512 .f32) :
    k0_pay60 x w s a = addf a (grp x w s) := by
  unfold k0_pay60 grp wcodes
  dsimp only
  repeat rw [shapeCast_self]
  try rfl
theorem pay_g21 (x : Vec F S256x128 .fp8e4m3) (w : Vec F S64x512 .i8) (s : Vec F S1x512 .f32) (a : Vec F S256x512 .f32) :
    k0_pay64 (k0_pay61 x) (k0_pay62 w) (k0_pay63 w) s a = addf a (grp x w s) := by
  unfold k0_pay64 k0_pay63 k0_pay62 k0_pay61 grp wcodes
  dsimp only
  repeat rw [shapeCast_self]
  try rfl
theorem pay_g22 (x : Vec F S256x128 .fp8e4m3) (w : Vec F S64x512 .i8) (s : Vec F S1x512 .f32) (a : Vec F S256x512 .f32) :
    k0_pay67 (k0_pay65 x) (k0_pay66 w) s a = addf a (grp x w s) := by
  unfold k0_pay67 k0_pay65 k0_pay66 grp wcodes
  dsimp only
  repeat rw [shapeCast_self]
  try rfl
theorem pay_g23 (x : Vec F S256x128 .fp8e4m3) (w : Vec F S64x512 .i8) (s : Vec F S1x512 .f32) (a : Vec F S256x512 .f32) :
    k0_pay69 (k0_pay68 x w s a) = addf a (grp x w s) := by
  unfold k0_pay69 k0_pay68 grp wcodes
  dsimp only
  repeat rw [shapeCast_self]
  try rfl
theorem pay_g24 (x : Vec F S256x128 .fp8e4m3) (w : Vec F S64x512 .i8) (s : Vec F S1x512 .f32) (a : Vec F S256x512 .f32) :
    k0_pay70 x w s a = addf a (grp x w s) := by
  unfold k0_pay70 grp wcodes
  dsimp only
  repeat rw [shapeCast_self]
  try rfl
theorem pay_g25 (x : Vec F S256x128 .fp8e4m3) (w : Vec F S64x512 .i8) (s : Vec F S1x512 .f32) (a : Vec F S256x512 .f32) :
    k0_pay74 (k0_pay71 x) (k0_pay72 w) (k0_pay73 w) s a = addf a (grp x w s) := by
  unfold k0_pay74 k0_pay73 k0_pay72 k0_pay71 grp wcodes
  dsimp only
  repeat rw [shapeCast_self]
  try rfl
theorem pay_g26 (x : Vec F S256x128 .fp8e4m3) (w : Vec F S64x512 .i8) (s : Vec F S1x512 .f32) (a : Vec F S256x512 .f32) :
    k0_pay77 (k0_pay75 x) (k0_pay76 w) s a = addf a (grp x w s) := by
  unfold k0_pay77 k0_pay75 k0_pay76 grp wcodes
  dsimp only
  repeat rw [shapeCast_self]
  try rfl
theorem pay_g27 (x : Vec F S256x128 .fp8e4m3) (w : Vec F S64x512 .i8) (s : Vec F S1x512 .f32) (a : Vec F S256x512 .f32) :
    k0_pay79 (k0_pay78 x w s a) = addf a (grp x w s) := by
  unfold k0_pay79 k0_pay78 grp wcodes
  dsimp only
  repeat rw [shapeCast_self]
  try rfl
theorem pay_g28 (x : Vec F S256x128 .fp8e4m3) (w : Vec F S64x512 .i8) (s : Vec F S1x512 .f32) (a : Vec F S256x512 .f32) :
    k0_pay80 x w s a = addf a (grp x w s) := by
  unfold k0_pay80 grp wcodes
  dsimp only
  repeat rw [shapeCast_self]
  try rfl
theorem pay_g29 (x : Vec F S256x128 .fp8e4m3) (w : Vec F S64x512 .i8) (s : Vec F S1x512 .f32) (a : Vec F S256x512 .f32) :
    k0_pay84 (k0_pay81 x) (k0_pay82 w) (k0_pay83 w) s a = addf a (grp x w s) := by
  unfold k0_pay84 k0_pay83 k0_pay82 k0_pay81 grp wcodes
  dsimp only
  repeat rw [shapeCast_self]
  try rfl
theorem pay_g30 (x : Vec F S256x128 .fp8e4m3) (w : Vec F S64x512 .i8) (s : Vec F S1x512 .f32) (a : Vec F S256x512 .f32) :
    k0_pay87 (k0_pay85 x) (k0_pay86 w) s a = addf a (grp x w s) := by
  unfold k0_pay87 k0_pay85 k0_pay86 grp wcodes
  dsimp only
  repeat rw [shapeCast_self]
  try rfl
theorem pay_g31 (x : Vec F S256x128 .fp8e4m3) (w : Vec F S64x512 .i8) (s : Vec F S1x512 .f32) (a : Vec F S256x512 .f32) :
    k0_pay89 (k0_pay88 x w s a) = addf a (grp x w s) := by
  unfold k0_pay89 k0_pay88 grp wcodes
  dsimp only
  repeat rw [shapeCast_self]
  try rfl
theorem pay_g32 (x : Vec F S256x128 .fp8e4m3) (w : Vec F S64x512 .i8) (s : Vec F S1x512 .f32) (a : Vec F S256x512 .f32) :
    k0_pay90 x w s a = addf a (grp x w s) := by
  unfold k0_pay90 grp wcodes
  dsimp only
  repeat rw [shapeCast_self]
  try rfl
theorem pay_g33 (x : Vec F S256x128 .fp8e4m3) (w : Vec F S64x512 .i8) (s : Vec F S1x512 .f32) (a : Vec F S256x512 .f32) :
    k0_pay94 (k0_pay91 x) (k0_pay92 w) (k0_pay93 w) s a = addf a (grp x w s) := by
  unfold k0_pay94 k0_pay93 k0_pay92 k0_pay91 grp wcodes
  dsimp only
  repeat rw [shapeCast_self]
  try rfl
theorem pay_g34 (x : Vec F S256x128 .fp8e4m3) (w : Vec F S64x512 .i8) (s : Vec F S1x512 .f32) (a : Vec F S256x512 .f32) :
    k0_pay97 (k0_pay95 x) (k0_pay96 w) s a = addf a (grp x w s) := by
  unfold k0_pay97 k0_pay95 k0_pay96 grp wcodes
  dsimp only
  repeat rw [shapeCast_self]
  try rfl
theorem pay_g35 (x : Vec F S256x128 .fp8e4m3) (w : Vec F S64x512 .i8) (s : Vec F S1x512 .f32) (a : Vec F S256x512 .f32) :
    k0_pay99 (k0_pay98 x w s a) = addf a (grp x w s) := by
  unfold k0_pay99 k0_pay98 grp wcodes
  dsimp only
  repeat rw [shapeCast_self]
  try rfl
theorem pay_g36 (x : Vec F S256x128 .fp8e4m3) (w : Vec F S64x512 .i8) (s : Vec F S1x512 .f32) (a : Vec F S256x512 .f32) :
    k0_pay100 x w s a = addf a (grp x w s) := by
  unfold k0_pay100 grp wcodes
  dsimp only
  repeat rw [shapeCast_self]
  try rfl
theorem pay_g37 (x : Vec F S256x128 .fp8e4m3) (w : Vec F S64x512 .i8) (s : Vec F S1x512 .f32) (a : Vec F S256x512 .f32) :
    k0_pay104 (k0_pay101 x) (k0_pay102 w) (k0_pay103 w) s a = addf a (grp x w s) := by
  unfold k0_pay104 k0_pay103 k0_pay102 k0_pay101 grp wcodes
  dsimp only
  repeat rw [shapeCast_self]
  try rfl
theorem pay_g38 (x : Vec F S256x128 .fp8e4m3) (w : Vec F S64x512 .i8) (s : Vec F S1x512 .f32) (a : Vec F S256x512 .f32) :
    k0_pay107 (k0_pay105 x) (k0_pay106 w) s a = addf a (grp x w s) := by
  unfold k0_pay107 k0_pay105 k0_pay106 grp wcodes
  dsimp only
  repeat rw [shapeCast_self]
  try rfl
theorem pay_g39 (x : Vec F S256x128 .fp8e4m3) (w : Vec F S64x512 .i8) (s : Vec F S1x512 .f32) (a : Vec F S256x512 .f32) :
    k0_pay109 (k0_pay108 x w s a) = addf a (grp x w s) := by
  unfold k0_pay109 k0_pay108 grp wcodes
  dsimp only
  repeat rw [shapeCast_self]
  try rfl
theorem pay_g40 (x : Vec F S256x128 .fp8e4m3) (w : Vec F S64x512 .i8) (s : Vec F S1x512 .f32) (a : Vec F S256x512 .f32) :
    k0_pay110 x w s a = addf a (grp x w s) := by
  unfold k0_pay110 grp wcodes
  dsimp only
  repeat rw [shapeCast_self]
  try rfl
theorem pay_g41 (x : Vec F S256x128 .fp8e4m3) (w : Vec F S64x512 .i8) (s : Vec F S1x512 .f32) (a : Vec F S256x512 .f32) :
    k0_pay114 (k0_pay111 x) (k0_pay112 w) (k0_pay113 w) s a = addf a (grp x w s) := by
  unfold k0_pay114 k0_pay113 k0_pay112 k0_pay111 grp wcodes
  dsimp only
  repeat rw [shapeCast_self]
  try rfl
theorem pay_g42 (x : Vec F S256x128 .fp8e4m3) (w : Vec F S64x512 .i8) (s : Vec F S1x512 .f32) (a : Vec F S256x512 .f32) :
    k0_pay117 (k0_pay115 x) (k0_pay116 w) s a = addf a (grp x w s) := by
  unfold k0_pay117 k0_pay115 k0_pay116 grp wcodes
  dsimp only
  repeat rw [shapeCast_self]
  try rfl

end Cert.KernelIdeal.Val

end
-- ==== Proof.RunB.lean ====
module

public import proofs.«01_k».proof.Proof.Body

@[expose] public section

set_option maxRecDepth 16384

noncomputable section

namespace Cert.KernelIdeal.Val

open Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the grid point is the first. -/
abbrev cond0_0 (i : grid0.Coords) : Prop := k0_cond1 i = 1#1

set_option maxHeartbeats 1508000 in
/-- The body at every point but the first, on whole staging memrefs: the codes, the scale row and the replicated scales
    are read as the first point left them and kept, and the block of the first result is written. -/
theorem kernelRun0_B (c : Dev nD) (i : grid0.Coords) (arg1 : Memref sig .tc .vmem S256x5504 .bf16) (harg1 : arg1.IsWhole) (arg2 : Memref sig .tc .vmem S2752x512 .i8) (harg2 : arg2.IsWhole) (arg3 : Memref sig .tc .vmem S43x512 .f32) (harg3 : arg3.IsWhole) (arg4 : Memref sig .tc .vmem S256x512 .bf16) (harg4 : arg4.IsWhole) (arg5 : Memref sig .tc .vmem S256x5504 .fp8e4m3) (harg5 : arg5.IsWhole) (arg6 : Memref sig .tc .vmem S1x256 .f32) (harg6 : arg6.IsWhole) (arg7 : Memref sig .tc .vmem S256x128 .f32) (harg7 : arg7.IsWhole) (arg8 : Memref sig .tc .vmem S256x512 .f32) (harg8 : arg8.IsWhole) (hc0 : ¬cond0_0 i)
    (x0 : Vec F S256x5504 .bf16) (xc : Vec F S256x5504 .fp8e4m3) (xs : Vec F S1x256 .f32) (rp : Vec F S256x128 .f32) (x1 : Vec F S2752x512 .i8) (x2 : Vec F S43x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xc ∗ owns (c : Thread nD τ) arg6 fullShare xs ∗ owns (c : Thread nD τ) arg7 fullShare rp ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yBlock xc rp x1 x2) ∗ owns (c : Thread nD τ) arg5 fullShare xc ∗ owns (c : Thread nD τ) arg6 fullShare xs ∗ owns (c : Thread nD τ) arg7 fullShare rp ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part34_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg5.eq_unread hf4
    obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      have b1 : kernelRun0_B.sl.v54 c arg2 harg2 arg3 harg3 arg5 harg5 arg8 xc x1 x2 = acc xc x1 x2 0 (by decide) := by
        unfold kernelRun0_B.sl.v54 kernelRun0_B.sl.HS1_1
        rw [View.readCov_full, pay_g0, ld_unit _ (harg5.read_unread xc), ld_unit _ (harg2.read_unread x1), ld_unit _ (harg3.read_unread x2)]
        rfl
      have b2 : kernelRun0_B.sl.v83 c arg2 harg2 arg3 harg3 arg5 harg5 arg8 xc x1 x2 = acc xc x1 x2 1 (by decide) := by
        unfold kernelRun0_B.sl.v83 kernelRun0_B.sl.HS1_2 kernelRun0_B.sl.r kernelRun0_B.sl.r_1 kernelRun0_B.sl.r_2
        rw [View.readCov_full, pay_g1, b1, ld_unit _ (harg5.read_unread xc), ld_unit _ (harg2.read_unread x1), ld_unit _ (harg3.read_unread x2)]
        rfl
      have b3 : kernelRun0_B.sl.v112 c arg2 harg2 arg3 harg3 arg5 harg5 arg8 xc x1 x2 = acc xc x1 x2 2 (by decide) := by
        unfold kernelRun0_B.sl.v112 kernelRun0_B.sl.HS1_3 kernelRun0_B.sl.r_3 kernelRun0_B.sl.r_4
        rw [View.readCov_full, pay_g2, b2, ld_unit _ (harg5.read_unread xc), ld_unit _ (harg2.read_unread x1), ld_unit _ (harg3.read_unread x2)]
        rfl
      have b4 : kernelRun0_B.sl.v141 c arg2 harg2 arg3 harg3 arg5 harg5 arg8 xc x1 x2 = acc xc x1 x2 3 (by decide) := by
        unfold kernelRun0_B.sl.v141 kernelRun0_B.sl.HS1_4 kernelRun0_B.sl.r_5
        rw [View.readCov_full, pay_g3, b3, ld_unit _ (harg5.read_unread xc), ld_unit _ (harg2.read_unread x1), ld_unit _ (harg3.read_unread x2)]
        rfl
      have b5 : kernelRun0_B.sl.v170 c arg2 harg2 arg3 harg3 arg5 harg5 arg8 xc x1 x2 = acc xc x1 x2 4 (by decide) := by
        unfold kernelRun0_B.sl.v170 kernelRun0_B.sl.HS1_5
        rw [View.readCov_full, pay_g4, b4, ld_unit _ (harg5.read_unread xc), ld_unit _ (harg2.read_unread x1), ld_unit _ (harg3.read_unread x2)]
        rfl
      have b6 : kernelRun0_B.sl.v199 c arg2 harg2 arg3 harg3 arg5 harg5 arg8 xc x1 x2 = acc xc x1 x2 5 (by decide) := by
        unfold kernelRun0_B.sl.v199 kernelRun0_B.sl.HS1_6 kernelRun0_B.sl.r_6 kernelRun0_B.sl.r_7 kernelRun0_B.sl.r_8
        rw [View.readCov_full, pay_g5, b5, ld_unit _ (harg5.read_unread xc), ld_unit _ (harg2.read_unread x1), ld_unit _ (harg3.read_unread x2)]
        rfl
      have b7 : kernelRun0_B.sl.v228 c arg2 harg2 arg3 harg3 arg5 harg5 arg8 xc x1 x2 = acc xc x1 x2 6 (by decide) := by
        unfold kernelRun0_B.sl.v228 kernelRun0_B.sl.HS1_7 kernelRun0_B.sl.r_9 kernelRun0_B.sl.r_10
        rw [View.readCov_full, pay_g6, b6, ld_unit _ (harg5.read_unread xc), ld_unit _ (harg2.read_unread x1), ld_unit _ (harg3.read_unread x2)]
        rfl
      have b8 : kernelRun0_B.sl.v257 c arg2 harg2 arg3 harg3 arg5 harg5 arg8 xc x1 x2 = acc xc x1 x2 7 (by decide) := by
        unfold kernelRun0_B.sl.v257 kernelRun0_B.sl.HS1_8 kernelRun0_B.sl.r_11
        rw [View.readCov_full, pay_g7, b7, ld_unit _ (harg5.read_unread xc), ld_unit _ (harg2.read_unread x1), ld_unit _ (harg3.read_unread x2)]
        rfl
      have b9 : kernelRun0_B.sl.v286 c arg2 harg2 arg3 harg3 arg5 harg5 arg8 xc x1 x2 = acc xc x1 x2 8 (by decide) := by
        unfold kernelRun0_B.sl.v286 kernelRun0_B.sl.HS1_9
        rw [View.readCov_full, pay_g8, b8, ld_unit _ (harg5.read_unread xc), ld_unit _ (harg2.read_unread x1), ld_unit _ (harg3.read_unread x2)]
        rfl
      have b10 : kernelRun0_B.sl.v315 c arg2 harg2 arg3 harg3 arg5 harg5 arg8 xc x1 x2 = acc xc x1 x2 9 (by decide) := by
        unfold kernelRun0_B.sl.v315 kernelRun0_B.sl.HS1_10 kernelRun0_B.sl.r_12 kernelRun0_B.sl.r_13 kernelRun0_B.sl.r_14
        rw [View.readCov_full, pay_g9, b9, ld_unit _ (harg5.read_unread xc), ld_unit _ (harg2.read_unread x1), ld_unit _ (harg3.read_unread x2)]
        rfl
      have b11 : kernelRun0_B.sl.v344 c arg2 harg2 arg3 harg3 arg5 harg5 arg8 xc x1 x2 = acc xc x1 x2 10 (by decide) := by
        unfold kernelRun0_B.sl.v344 kernelRun0_B.sl.HS1_11 kernelRun0_B.sl.r_15 kernelRun0_B.sl.r_16
        rw [View.readCov_full, pay_g10, b10, ld_unit _ (harg5.read_unread xc), ld_unit _ (harg2.read_unread x1), ld_unit _ (harg3.read_unread x2)]
        rfl
      have b12 : kernelRun0_B.sl.v373 c arg2 harg2 arg3 harg3 arg5 harg5 arg8 xc x1 x2 = acc xc x1 x2 11 (by decide) := by
        unfold kernelRun0_B.sl.v373 kernelRun0_B.sl.HS1_12 kernelRun0_B.sl.r_17
        rw [View.readCov_full, pay_g11, b11, ld_unit _ (harg5.read_unread xc), ld_unit _ (harg2.read_unread x1), ld_unit _ (harg3.read_unread x2)]
        rfl
      have b13 : kernelRun0_B.sl.v402 c arg2 harg2 arg3 harg3 arg5 harg5 arg8 xc x1 x2 = acc xc x1 x2 12 (by decide) := by
        unfold kernelRun0_B.sl.v402 kernelRun0_B.sl.HS1_13
        rw [View.readCov_full, pay_g12, b12, ld_unit _ (harg5.read_unread xc), ld_unit _ (harg2.read_unread x1), ld_unit _ (harg3.read_unread x2)]
        rfl
      have b14 : kernelRun0_B.sl.v431 c arg2 harg2 arg3 harg3 arg5 harg5 arg8 xc x1 x2 = acc xc x1 x2 13 (by decide) := by
        unfold kernelRun0_B.sl.v431 kernelRun0_B.sl.HS1_14 kernelRun0_B.sl.r_18 kernelRun0_B.sl.r_19 kernelRun0_B.sl.r_20
        rw [View.readCov_full, pay_g13, b13, ld_unit _ (harg5.read_unread xc), ld_unit _ (harg2.read_unread x1), ld_unit _ (harg3.read_unread x2)]
        rfl
      have b15 : kernelRun0_B.sl.v460 c arg2 harg2 arg3 harg3 arg5 harg5 arg8 xc x1 x2 = acc xc x1 x2 14 (by decide) := by
        unfold kernelRun0_B.sl.v460 kernelRun0_B.sl.HS1_15 kernelRun0_B.sl.r_21 kernelRun0_B.sl.r_22
        rw [View.readCov_full, pay_g14, b14, ld_unit _ (harg5.read_unread xc), ld_unit _ (harg2.read_unread x1), ld_unit _ (harg3.read_unread x2)]
        rfl
      have b16 : kernelRun0_B.sl.v489 c arg2 harg2 arg3 harg3 arg5 harg5 arg8 xc x1 x2 = acc xc x1 x2 15 (by decide) := by
        unfold kernelRun0_B.sl.v489 kernelRun0_B.sl.HS1_16 kernelRun0_B.sl.r_23
        rw [View.readCov_full, pay_g15, b15, ld_unit _ (harg5.read_unread xc), ld_unit _ (harg2.read_unread x1), ld_unit _ (harg3.read_unread x2)]
        rfl
      have b17 : kernelRun0_B.sl.v518 c arg2 harg2 arg3 harg3 arg5 harg5 arg8 xc x1 x2 = acc xc x1 x2 16 (by decide) := by
        unfold kernelRun0_B.sl.v518 kernelRun0_B.sl.HS1_17
        rw [View.readCov_full, pay_g16, b16, ld_unit _ (harg5.read_unread xc), ld_unit _ (harg2.read_unread x1), ld_unit _ (harg3.read_unread x2)]
        rfl
      have b18 : kernelRun0_B.sl.v547 c arg2 harg2 arg3 harg3 arg5 harg5 arg8 xc x1 x2 = acc xc x1 x2 17 (by decide) := by
        unfold kernelRun0_B.sl.v547 kernelRun0_B.sl.HS1_18 kernelRun0_B.sl.r_24 kernelRun0_B.sl.r_25 kernelRun0_B.sl.r_26
        rw [View.readCov_full, pay_g17, b17, ld_unit _ (harg5.read_unread xc), ld_unit _ (harg2.read_unread x1), ld_unit _ (harg3.read_unread x2)]
        rfl
      have b19 : kernelRun0_B.sl.v576 c arg2 harg2 arg3 harg3 arg5 harg5 arg8 xc x1 x2 = acc xc x1 x2 18 (by decide) := by
        unfold kernelRun0_B.sl.v576 kernelRun0_B.sl.HS1_19 kernelRun0_B.sl.r_27 kernelRun0_B.sl.r_28
        rw [View.readCov_full, pay_g18, b18, ld_unit _ (harg5.read_unread xc), ld_unit _ (harg2.read_unread x1), ld_unit _ (harg3.read_unread x2)]
        rfl
      have b20 : kernelRun0_B.sl.v605 c arg2 harg2 arg3 harg3 arg5 harg5 arg8 xc x1 x2 = acc xc x1 x2 19 (by decide) := by
        unfold kernelRun0_B.sl.v605 kernelRun0_B.sl.HS1_20 kernelRun0_B.sl.r_29
        rw [View.readCov_full, pay_g19, b19, ld_unit _ (harg5.read_unread xc), ld_unit _ (harg2.read_unread x1), ld_unit _ (harg3.read_unread x2)]
        rfl
      have b21 : kernelRun0_B.sl.v634 c arg2 harg2 arg3 harg3 arg5 harg5 arg8 xc x1 x2 = acc xc x1 x2 20 (by decide) := by
        unfold kernelRun0_B.sl.v634 kernelRun0_B.sl.HS1_21
        rw [View.readCov_full, pay_g20, b20, ld_unit _ (harg5.read_unread xc), ld_unit _ (harg2.read_unread x1), ld_unit _ (harg3.read_unread x2)]
        rfl
      have b22 : kernelRun0_B.sl.v663 c arg2 harg2 arg3 harg3 arg5 harg5 arg8 xc x1 x2 = acc xc x1 x2 21 (by decide) := by
        unfold kernelRun0_B.sl.v663 kernelRun0_B.sl.HS1_22 kernelRun0_B.sl.r_30 kernelRun0_B.sl.r_31 kernelRun0_B.sl.r_32
        rw [View.readCov_full, pay_g21, b21, ld_unit _ (harg5.read_unread xc), ld_unit _ (harg2.read_unread x1), ld_unit _ (harg3.read_unread x2)]
        rfl
      have b23 : kernelRun0_B.sl.v692 c arg2 harg2 arg3 harg3 arg5 harg5 arg8 xc x1 x2 = acc xc x1 x2 22 (by decide) := by
        unfold kernelRun0_B.sl.v692 kernelRun0_B.sl.HS1_23 kernelRun0_B.sl.r_33 kernelRun0_B.sl.r_34
        rw [View.readCov_full, pay_g22, b22, ld_unit _ (harg5.read_unread xc), ld_unit _ (harg2.read_unread x1), ld_unit _ (harg3.read_unread x2)]
        rfl
      have b24 : kernelRun0_B.sl.v721 c arg2 harg2 arg3 harg3 arg5 harg5 arg8 xc x1 x2 = acc xc x1 x2 23 (by decide) := by
        unfold kernelRun0_B.sl.v721 kernelRun0_B.sl.HS1_24 kernelRun0_B.sl.r_35
        rw [View.readCov_full, pay_g23, b23, ld_unit _ (harg5.read_unread xc), ld_unit _ (harg2.read_unread x1), ld_unit _ (harg3.read_unread x2)]
        rfl
      have b25 : kernelRun0_B.sl.v750 c arg2 harg2 arg3 harg3 arg5 harg5 arg8 xc x1 x2 = acc xc x1 x2 24 (by decide) := by
        unfold kernelRun0_B.sl.v750 kernelRun0_B.sl.HS1_25
        rw [View.readCov_full, pay_g24, b24, ld_unit _ (harg5.read_unread xc), ld_unit _ (harg2.read_unread x1), ld_unit _ (harg3.read_unread x2)]
        rfl
      have b26 : kernelRun0_B.sl.v779 c arg2 harg2 arg3 harg3 arg5 harg5 arg8 xc x1 x2 = acc xc x1 x2 25 (by decide) := by
        unfold kernelRun0_B.sl.v779 kernelRun0_B.sl.HS1_26 kernelRun0_B.sl.r_36 kernelRun0_B.sl.r_37 kernelRun0_B.sl.r_38
        rw [View.readCov_full, pay_g25, b25, ld_unit _ (harg5.read_unread xc), ld_unit _ (harg2.read_unread x1), ld_unit _ (harg3.read_unread x2)]
        rfl
      have b27 : kernelRun0_B.sl.v808 c arg2 harg2 arg3 harg3 arg5 harg5 arg8 xc x1 x2 = acc xc x1 x2 26 (by decide) := by
        unfold kernelRun0_B.sl.v808 kernelRun0_B.sl.HS1_27 kernelRun0_B.sl.r_39 kernelRun0_B.sl.r_40
        rw [View.readCov_full, pay_g26, b26, ld_unit _ (harg5.read_unread xc), ld_unit _ (harg2.read_unread x1), ld_unit _ (harg3.read_unread x2)]
        rfl
      have b28 : kernelRun0_B.sl.v837 c arg2 harg2 arg3 harg3 arg5 harg5 arg8 xc x1 x2 = acc xc x1 x2 27 (by decide) := by
        unfold kernelRun0_B.sl.v837 kernelRun0_B.sl.HS1_28 kernelRun0_B.sl.r_41
        rw [View.readCov_full, pay_g27, b27, ld_unit _ (harg5.read_unread xc), ld_unit _ (harg2.read_unread x1), ld_unit _ (harg3.read_unread x2)]
        rfl
      have b29 : kernelRun0_B.sl.v866 c arg2 harg2 arg3 harg3 arg5 harg5 arg8 xc x1 x2 = acc xc x1 x2 28 (by decide) := by
        unfold kernelRun0_B.sl.v866 kernelRun0_B.sl.HS1_29
        rw [View.readCov_full, pay_g28, b28, ld_unit _ (harg5.read_unread xc), ld_unit _ (harg2.read_unread x1), ld_unit _ (harg3.read_unread x2)]
        rfl
      have b30 : kernelRun0_B.sl.v895 c arg2 harg2 arg3 harg3 arg5 harg5 arg8 xc x1 x2 = acc xc x1 x2 29 (by decide) := by
        unfold kernelRun0_B.sl.v895 kernelRun0_B.sl.HS1_30 kernelRun0_B.sl.r_42 kernelRun0_B.sl.r_43 kernelRun0_B.sl.r_44
        rw [View.readCov_full, pay_g29, b29, ld_unit _ (harg5.read_unread xc), ld_unit _ (harg2.read_unread x1), ld_unit _ (harg3.read_unread x2)]
        rfl
      have b31 : kernelRun0_B.sl.v924 c arg2 harg2 arg3 harg3 arg5 harg5 arg8 xc x1 x2 = acc xc x1 x2 30 (by decide) := by
        unfold kernelRun0_B.sl.v924 kernelRun0_B.sl.HS1_31 kernelRun0_B.sl.r_45 kernelRun0_B.sl.r_46
        rw [View.readCov_full, pay_g30, b30, ld_unit _ (harg5.read_unread xc), ld_unit _ (harg2.read_unread x1), ld_unit _ (harg3.read_unread x2)]
        rfl
      have b32 : kernelRun0_B.sl.v953 c arg2 harg2 arg3 harg3 arg5 harg5 arg8 xc x1 x2 = acc xc x1 x2 31 (by decide) := by
        unfold kernelRun0_B.sl.v953 kernelRun0_B.sl.HS1_32 kernelRun0_B.sl.r_47
        rw [View.readCov_full, pay_g31, b31, ld_unit _ (harg5.read_unread xc), ld_unit _ (harg2.read_unread x1), ld_unit _ (harg3.read_unread x2)]
        rfl
      have b33 : kernelRun0_B.sl.v982 c arg2 harg2 arg3 harg3 arg5 harg5 arg8 xc x1 x2 = acc xc x1 x2 32 (by decide) := by
        unfold kernelRun0_B.sl.v982 kernelRun0_B.sl.HS1_33
        rw [View.readCov_full, pay_g32, b32, ld_unit _ (harg5.read_unread xc), ld_unit _ (harg2.read_unread x1), ld_unit _ (harg3.read_unread x2)]
        rfl
      have b34 : kernelRun0_B.sl.v1011 c arg2 harg2 arg3 harg3 arg5 harg5 arg8 xc x1 x2 = acc xc x1 x2 33 (by decide) := by
        unfold kernelRun0_B.sl.v1011 kernelRun0_B.sl.HS1_34 kernelRun0_B.sl.r_48 kernelRun0_B.sl.r_49 kernelRun0_B.sl.r_50
        rw [View.readCov_full, pay_g33, b33, ld_unit _ (harg5.read_unread xc), ld_unit _ (harg2.read_unread x1), ld_unit _ (harg3.read_unread x2)]
        rfl
      have b35 : kernelRun0_B.sl.v1040 c arg2 harg2 arg3 harg3 arg5 harg5 arg8 xc x1 x2 = acc xc x1 x2 34 (by decide) := by
        unfold kernelRun0_B.sl.v1040 kernelRun0_B.sl.HS1_35 kernelRun0_B.sl.r_51 kernelRun0_B.sl.r_52
        rw [View.readCov_full, pay_g34, b34, ld_unit _ (harg5.read_unread xc), ld_unit _ (harg2.read_unread x1), ld_unit _ (harg3.read_unread x2)]
        rfl
      have b36 : kernelRun0_B.sl.v1069 c arg2 harg2 arg3 harg3 arg5 harg5 arg8 xc x1 x2 = acc xc x1 x2 35 (by decide) := by
        unfold kernelRun0_B.sl.v1069 kernelRun0_B.sl.HS1_36 kernelRun0_B.sl.r_53
        rw [View.readCov_full, pay_g35, b35, ld_unit _ (harg5.read_unread xc), ld_unit _ (harg2.read_unread x1), ld_unit _ (harg3.read_unread x2)]
        rfl
      have b37 : kernelRun0_B.sl.v1098 c arg2 harg2 arg3 harg3 arg5 harg5 arg8 xc x1 x2 = acc xc x1 x2 36 (by decide) := by
        unfold kernelRun0_B.sl.v1098 kernelRun0_B.sl.HS1_37
        rw [View.readCov_full, pay_g36, b36, ld_unit _ (harg5.read_unread xc), ld_unit _ (harg2.read_unread x1), ld_unit _ (harg3.read_unread x2)]
        rfl
      have b38 : kernelRun0_B.sl.v1127 c arg2 harg2 arg3 harg3 arg5 harg5 arg8 xc x1 x2 = acc xc x1 x2 37 (by decide) := by
        unfold kernelRun0_B.sl.v1127 kernelRun0_B.sl.HS1_38 kernelRun0_B.sl.r_54 kernelRun0_B.sl.r_55 kernelRun0_B.sl.r_56
        rw [View.readCov_full, pay_g37, b37, ld_unit _ (harg5.read_unread xc), ld_unit _ (harg2.read_unread x1), ld_unit _ (harg3.read_unread x2)]
        rfl
      have b39 : kernelRun0_B.sl.v1156 c arg2 harg2 arg3 harg3 arg5 harg5 arg8 xc x1 x2 = acc xc x1 x2 38 (by decide) := by
        unfold kernelRun0_B.sl.v1156 kernelRun0_B.sl.HS1_39 kernelRun0_B.sl.r_57 kernelRun0_B.sl.r_58
        rw [View.readCov_full, pay_g38, b38, ld_unit _ (harg5.read_unread xc), ld_unit _ (harg2.read_unread x1), ld_unit _ (harg3.read_unread x2)]
        rfl
      have b40 : kernelRun0_B.sl.v1185 c arg2 harg2 arg3 harg3 arg5 harg5 arg8 xc x1 x2 = acc xc x1 x2 39 (by decide) := by
        unfold kernelRun0_B.sl.v1185 kernelRun0_B.sl.HS1_40 kernelRun0_B.sl.r_59
        rw [View.readCov_full, pay_g39, b39, ld_unit _ (harg5.read_unread xc), ld_unit _ (harg2.read_unread x1), ld_unit _ (harg3.read_unread x2)]
        rfl
      have b41 : kernelRun0_B.sl.v1214 c arg2 harg2 arg3 harg3 arg5 harg5 arg8 xc x1 x2 = acc xc x1 x2 40 (by decide) := by
        unfold kernelRun0_B.sl.v1214 kernelRun0_B.sl.HS1_41
        rw [View.readCov_full, pay_g40, b40, ld_unit _ (harg5.read_unread xc), ld_unit _ (harg2.read_unread x1), ld_unit _ (harg3.read_unread x2)]
        rfl
      have b42 : kernelRun0_B.sl.v1243 c arg2 harg2 arg3 harg3 arg5 harg5 arg8 xc x1 x2 = acc xc x1 x2 41 (by decide) := by
        unfold kernelRun0_B.sl.v1243 kernelRun0_B.sl.HS1_42 kernelRun0_B.sl.r_60 kernelRun0_B.sl.r_61 kernelRun0_B.sl.r_62
        rw [View.readCov_full, pay_g41, b41, ld_unit _ (harg5.read_unread xc), ld_unit _ (harg2.read_unread x1), ld_unit _ (harg3.read_unread x2)]
        rfl
      have b43 : kernelRun0_B.sl.v1250 c arg2 harg2 arg3 harg3 arg5 harg5 arg8 xc x1 x2 = acc xc x1 x2 42 (by decide) := by
        unfold kernelRun0_B.sl.v1250 kernelRun0_B.sl.HS1_43 kernelRun0_B.sl.r_63 kernelRun0_B.sl.r_64
        rw [View.readCov_full, pay_g42, b42, ld_unit _ (harg5.read_unread xc), ld_unit _ (harg2.read_unread x1), ld_unit _ (harg3.read_unread x2)]
        rfl
      rw [View.read_writes_full]; unfold kernelRun0_B.sl.r_65; rw [b43, ld_full _ (harg7.read_unread rp)]; rfl
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _, _; isplitr; swap; · iexact HS1
    ipureintro; rfl

end Cert.KernelIdeal.Val

end
-- ==== Proof.RunA.lean ====
module

public import proofs.«01_k».proof.Proof.RunB

@[expose] public section

set_option maxRecDepth 16384

noncomputable section

namespace Cert.KernelIdeal.Val

open Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1556000 in
/-- The body at the first point, on whole staging memrefs: the codes, the scale row and the replicated scales are
    computed from the activations and written, and so is the block of the first result. -/
theorem kernelRun0_A (c : Dev nD) (i : grid0.Coords) (arg1 : Memref sig .tc .vmem S256x5504 .bf16) (harg1 : arg1.IsWhole) (arg2 : Memref sig .tc .vmem S2752x512 .i8) (harg2 : arg2.IsWhole) (arg3 : Memref sig .tc .vmem S43x512 .f32) (harg3 : arg3.IsWhole) (arg4 : Memref sig .tc .vmem S256x512 .bf16) (harg4 : arg4.IsWhole) (arg5 : Memref sig .tc .vmem S256x5504 .fp8e4m3) (harg5 : arg5.IsWhole) (arg6 : Memref sig .tc .vmem S1x256 .f32) (harg6 : arg6.IsWhole) (arg7 : Memref sig .tc .vmem S256x128 .f32) (harg7 : arg7.IsWhole) (arg8 : Memref sig .tc .vmem S256x512 .f32) (harg8 : arg8.IsWhole) (hc0 : cond0_0 i)
    (x0 : Vec F S256x5504 .bf16) (x1 : Vec F S2752x512 .i8) (x2 : Vec F S43x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yBlock (codes x0) (rep x0) x1 x2) ∗ owns (c : Thread nD τ) arg5 fullShare (codes x0) ∗ owns (c : Thread nD τ) arg6 fullShare (row x0) ∗ owns (c : Thread nD τ) arg7 fullShare (rep x0) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part34_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      have hc : kernelRun0_A.sl.H4_1 c arg1 harg1 x0 = [⟨Rect.unit ![0, 0] S256x5504.size inb_S256x5504_S256x5504_0_0, codes x0⟩] := by
        unfold kernelRun0_A.sl.H4_1 kernelRun0_A.sl.r kernelRun0_A.sl.r_2; rw [ld_full _ (harg1.read_unread x0)]; rfl
      have b1 : kernelRun0_A.sl.v54 c arg1 harg1 arg2 harg2 arg3 harg3 arg5 arg8 x0 x1 x2 = acc (codes x0) x1 x2 0 (by decide) := by
        unfold kernelRun0_A.sl.v54 kernelRun0_A.sl.HS1_1 kernelRun0_A.sl.v3
        rw [View.readCov_full, pay_g0, hc, ldc_unit, ld_unit _ (harg2.read_unread x1), ld_unit _ (harg3.read_unread x2)]
        rfl
      have b2 : kernelRun0_A.sl.v83 c arg1 harg1 arg2 harg2 arg3 harg3 arg5 arg8 x0 x1 x2 = acc (codes x0) x1 x2 1 (by decide) := by
        unfold kernelRun0_A.sl.v83 kernelRun0_A.sl.HS1_2 kernelRun0_A.sl.r_3 kernelRun0_A.sl.r_4 kernelRun0_A.sl.r_5 kernelRun0_A.sl.v30
        rw [View.readCov_full, pay_g1, b1, hc, ldc_unit, ld_unit _ (harg2.read_unread x1), ld_unit _ (harg3.read_unread x2)]
        rfl
      have b3 : kernelRun0_A.sl.v112 c arg1 harg1 arg2 harg2 arg3 harg3 arg5 arg8 x0 x1 x2 = acc (codes x0) x1 x2 2 (by decide) := by
        unfold kernelRun0_A.sl.v112 kernelRun0_A.sl.HS1_3 kernelRun0_A.sl.r_6 kernelRun0_A.sl.r_7 kernelRun0_A.sl.v59
        rw [View.readCov_full, pay_g2, b2, hc, ldc_unit, ld_unit _ (harg2.read_unread x1), ld_unit _ (harg3.read_unread x2)]
        rfl
      have b4 : kernelRun0_A.sl.v141 c arg1 harg1 arg2 harg2 arg3 harg3 arg5 arg8 x0 x1 x2 = acc (codes x0) x1 x2 3 (by decide) := by
        unfold kernelRun0_A.sl.v141 kernelRun0_A.sl.HS1_4 kernelRun0_A.sl.r_8 kernelRun0_A.sl.v88
        rw [View.readCov_full, pay_g3, b3, hc, ldc_unit, ld_unit _ (harg2.read_unread x1), ld_unit _ (harg3.read_unread x2)]
        rfl
      have b5 : kernelRun0_A.sl.v170 c arg1 harg1 arg2 harg2 arg3 harg3 arg5 arg8 x0 x1 x2 = acc (codes x0) x1 x2 4 (by decide) := by
        unfold kernelRun0_A.sl.v170 kernelRun0_A.sl.HS1_5 kernelRun0_A.sl.v117
        rw [View.readCov_full, pay_g4, b4, hc, ldc_unit, ld_unit _ (harg2.read_unread x1), ld_unit _ (harg3.read_unread x2)]
        rfl
      have b6 : kernelRun0_A.sl.v199 c arg1 harg1 arg2 harg2 arg3 harg3 arg5 arg8 x0 x1 x2 = acc (codes x0) x1 x2 5 (by decide) := by
        unfold kernelRun0_A.sl.v199 kernelRun0_A.sl.HS1_6 kernelRun0_A.sl.r_9 kernelRun0_A.sl.r_10 kernelRun0_A.sl.r_11 kernelRun0_A.sl.v146
        rw [View.readCov_full, pay_g5, b5, hc, ldc_unit, ld_unit _ (harg2.read_unread x1), ld_unit _ (harg3.read_unread x2)]
        rfl
      have b7 : kernelRun0_A.sl.v228 c arg1 harg1 arg2 harg2 arg3 harg3 arg5 arg8 x0 x1 x2 = acc (codes x0) x1 x2 6 (by decide) := by
        unfold kernelRun0_A.sl.v228 kernelRun0_A.sl.HS1_7 kernelRun0_A.sl.r_12 kernelRun0_A.sl.r_13 kernelRun0_A.sl.v175
        rw [View.readCov_full, pay_g6, b6, hc, ldc_unit, ld_unit _ (harg2.read_unread x1), ld_unit _ (harg3.read_unread x2)]
        rfl
      have b8 : kernelRun0_A.sl.v257 c arg1 harg1 arg2 harg2 arg3 harg3 arg5 arg8 x0 x1 x2 = acc (codes x0) x1 x2 7 (by decide) := by
        unfold kernelRun0_A.sl.v257 kernelRun0_A.sl.HS1_8 kernelRun0_A.sl.r_14 kernelRun0_A.sl.v204
        rw [View.readCov_full, pay_g7, b7, hc, ldc_unit, ld_unit _ (harg2.read_unread x1), ld_unit _ (harg3.read_unread x2)]
        rfl
      have b9 : kernelRun0_A.sl.v286 c arg1 harg1 arg2 harg2 arg3 harg3 arg5 arg8 x0 x1 x2 = acc (codes x0) x1 x2 8 (by decide) := by
        unfold kernelRun0_A.sl.v286 kernelRun0_A.sl.HS1_9 kernelRun0_A.sl.v233
        rw [View.readCov_full, pay_g8, b8, hc, ldc_unit, ld_unit _ (harg2.read_unread x1), ld_unit _ (harg3.read_unread x2)]
        rfl
      have b10 : kernelRun0_A.sl.v315 c arg1 harg1 arg2 harg2 arg3 harg3 arg5 arg8 x0 x1 x2 = acc (codes x0) x1 x2 9 (by decide) := by
        unfold kernelRun0_A.sl.v315 kernelRun0_A.sl.HS1_10 kernelRun0_A.sl.r_15 kernelRun0_A.sl.r_16 kernelRun0_A.sl.r_17 kernelRun0_A.sl.v262
        rw [View.readCov_full, pay_g9, b9, hc, ldc_unit, ld_unit _ (harg2.read_unread x1), ld_unit _ (harg3.read_unread x2)]
        rfl
      have b11 : kernelRun0_A.sl.v344 c arg1 harg1 arg2 harg2 arg3 harg3 arg5 arg8 x0 x1 x2 = acc (codes x0) x1 x2 10 (by decide) := by
        unfold kernelRun0_A.sl.v344 kernelRun0_A.sl.HS1_11 kernelRun0_A.sl.r_18 kernelRun0_A.sl.r_19 kernelRun0_A.sl.v291
        rw [View.readCov_full, pay_g10, b10, hc, ldc_unit, ld_unit _ (harg2.read_unread x1), ld_unit _ (harg3.read_unread x2)]
        rfl
      have b12 : kernelRun0_A.sl.v373 c arg1 harg1 arg2 harg2 arg3 harg3 arg5 arg8 x0 x1 x2 = acc (codes x0) x1 x2 11 (by decide) := by
        unfold kernelRun0_A.sl.v373 kernelRun0_A.sl.HS1_12 kernelRun0_A.sl.r_20 kernelRun0_A.sl.v320
        rw [View.readCov_full, pay_g11, b11, hc, ldc_unit, ld_unit _ (harg2.read_unread x1), ld_unit _ (harg3.read_unread x2)]
        rfl
      have b13 : kernelRun0_A.sl.v402 c arg1 harg1 arg2 harg2 arg3 harg3 arg5 arg8 x0 x1 x2 = acc (codes x0) x1 x2 12 (by decide) := by
        unfold kernelRun0_A.sl.v402 kernelRun0_A.sl.HS1_13 kernelRun0_A.sl.v349
        rw [View.readCov_full, pay_g12, b12, hc, ldc_unit, ld_unit _ (harg2.read_unread x1), ld_unit _ (harg3.read_unread x2)]
        rfl
      have b14 : kernelRun0_A.sl.v431 c arg1 harg1 arg2 harg2 arg3 harg3 arg5 arg8 x0 x1 x2 = acc (codes x0) x1 x2 13 (by decide) := by
        unfold kernelRun0_A.sl.v431 kernelRun0_A.sl.HS1_14 kernelRun0_A.sl.r_21 kernelRun0_A.sl.r_22 kernelRun0_A.sl.r_23 kernelRun0_A.sl.v378
        rw [View.readCov_full, pay_g13, b13, hc, ldc_unit, ld_unit _ (harg2.read_unread x1), ld_unit _ (harg3.read_unread x2)]
        rfl
      have b15 : kernelRun0_A.sl.v460 c arg1 harg1 arg2 harg2 arg3 harg3 arg5 arg8 x0 x1 x2 = acc (codes x0) x1 x2 14 (by decide) := by
        unfold kernelRun0_A.sl.v460 kernelRun0_A.sl.HS1_15 kernelRun0_A.sl.r_24 kernelRun0_A.sl.r_25 kernelRun0_A.sl.v407
        rw [View.readCov_full, pay_g14, b14, hc, ldc_unit, ld_unit _ (harg2.read_unread x1), ld_unit _ (harg3.read_unread x2)]
        rfl
      have b16 : kernelRun0_A.sl.v489 c arg1 harg1 arg2 harg2 arg3 harg3 arg5 arg8 x0 x1 x2 = acc (codes x0) x1 x2 15 (by decide) := by
        unfold kernelRun0_A.sl.v489 kernelRun0_A.sl.HS1_16 kernelRun0_A.sl.r_26 kernelRun0_A.sl.v436
        rw [View.readCov_full, pay_g15, b15, hc, ldc_unit, ld_unit _ (harg2.read_unread x1), ld_unit _ (harg3.read_unread x2)]
        rfl
      have b17 : kernelRun0_A.sl.v518 c arg1 harg1 arg2 harg2 arg3 harg3 arg5 arg8 x0 x1 x2 = acc (codes x0) x1 x2 16 (by decide) := by
        unfold kernelRun0_A.sl.v518 kernelRun0_A.sl.HS1_17 kernelRun0_A.sl.v465
        rw [View.readCov_full, pay_g16, b16, hc, ldc_unit, ld_unit _ (harg2.read_unread x1), ld_unit _ (harg3.read_unread x2)]
        rfl
      have b18 : kernelRun0_A.sl.v547 c arg1 harg1 arg2 harg2 arg3 harg3 arg5 arg8 x0 x1 x2 = acc (codes x0) x1 x2 17 (by decide) := by
        unfold kernelRun0_A.sl.v547 kernelRun0_A.sl.HS1_18 kernelRun0_A.sl.r_27 kernelRun0_A.sl.r_28 kernelRun0_A.sl.r_29 kernelRun0_A.sl.v494
        rw [View.readCov_full, pay_g17, b17, hc, ldc_unit, ld_unit _ (harg2.read_unread x1), ld_unit _ (harg3.read_unread x2)]
        rfl
      have b19 : kernelRun0_A.sl.v576 c arg1 harg1 arg2 harg2 arg3 harg3 arg5 arg8 x0 x1 x2 = acc (codes x0) x1 x2 18 (by decide) := by
        unfold kernelRun0_A.sl.v576 kernelRun0_A.sl.HS1_19 kernelRun0_A.sl.r_30 kernelRun0_A.sl.r_31 kernelRun0_A.sl.v523
        rw [View.readCov_full, pay_g18, b18, hc, ldc_unit, ld_unit _ (harg2.read_unread x1), ld_unit _ (harg3.read_unread x2)]
        rfl
      have b20 : kernelRun0_A.sl.v605 c arg1 harg1 arg2 harg2 arg3 harg3 arg5 arg8 x0 x1 x2 = acc (codes x0) x1 x2 19 (by decide) := by
        unfold kernelRun0_A.sl.v605 kernelRun0_A.sl.HS1_20 kernelRun0_A.sl.r_32 kernelRun0_A.sl.v552
        rw [View.readCov_full, pay_g19, b19, hc, ldc_unit, ld_unit _ (harg2.read_unread x1), ld_unit _ (harg3.read_unread x2)]
        rfl
      have b21 : kernelRun0_A.sl.v634 c arg1 harg1 arg2 harg2 arg3 harg3 arg5 arg8 x0 x1 x2 = acc (codes x0) x1 x2 20 (by decide) := by
        unfold kernelRun0_A.sl.v634 kernelRun0_A.sl.HS1_21 kernelRun0_A.sl.v581
        rw [View.readCov_full, pay_g20, b20, hc, ldc_unit, ld_unit _ (harg2.read_unread x1), ld_unit _ (harg3.read_unread x2)]
        rfl
      have b22 : kernelRun0_A.sl.v663 c arg1 harg1 arg2 harg2 arg3 harg3 arg5 arg8 x0 x1 x2 = acc (codes x0) x1 x2 21 (by decide) := by
        unfold kernelRun0_A.sl.v663 kernelRun0_A.sl.HS1_22 kernelRun0_A.sl.r_33 kernelRun0_A.sl.r_34 kernelRun0_A.sl.r_35 kernelRun0_A.sl.v610
        rw [View.readCov_full, pay_g21, b21, hc, ldc_unit, ld_unit _ (harg2.read_unread x1), ld_unit _ (harg3.read_unread x2)]
        rfl
      have b23 : kernelRun0_A.sl.v692 c arg1 harg1 arg2 harg2 arg3 harg3 arg5 arg8 x0 x1 x2 = acc (codes x0) x1 x2 22 (by decide) := by
        unfold kernelRun0_A.sl.v692 kernelRun0_A.sl.HS1_23 kernelRun0_A.sl.r_36 kernelRun0_A.sl.r_37 kernelRun0_A.sl.v639
        rw [View.readCov_full, pay_g22, b22, hc, ldc_unit, ld_unit _ (harg2.read_unread x1), ld_unit _ (harg3.read_unread x2)]
        rfl
      have b24 : kernelRun0_A.sl.v721 c arg1 harg1 arg2 harg2 arg3 harg3 arg5 arg8 x0 x1 x2 = acc (codes x0) x1 x2 23 (by decide) := by
        unfold kernelRun0_A.sl.v721 kernelRun0_A.sl.HS1_24 kernelRun0_A.sl.r_38 kernelRun0_A.sl.v668
        rw [View.readCov_full, pay_g23, b23, hc, ldc_unit, ld_unit _ (harg2.read_unread x1), ld_unit _ (harg3.read_unread x2)]
        rfl
      have b25 : kernelRun0_A.sl.v750 c arg1 harg1 arg2 harg2 arg3 harg3 arg5 arg8 x0 x1 x2 = acc (codes x0) x1 x2 24 (by decide) := by
        unfold kernelRun0_A.sl.v750 kernelRun0_A.sl.HS1_25 kernelRun0_A.sl.v697
        rw [View.readCov_full, pay_g24, b24, hc, ldc_unit, ld_unit _ (harg2.read_unread x1), ld_unit _ (harg3.read_unread x2)]
        rfl
      have b26 : kernelRun0_A.sl.v779 c arg1 harg1 arg2 harg2 arg3 harg3 arg5 arg8 x0 x1 x2 = acc (codes x0) x1 x2 25 (by decide) := by
        unfold kernelRun0_A.sl.v779 kernelRun0_A.sl.HS1_26 kernelRun0_A.sl.r_39 kernelRun0_A.sl.r_40 kernelRun0_A.sl.r_41 kernelRun0_A.sl.v726
        rw [View.readCov_full, pay_g25, b25, hc, ldc_unit, ld_unit _ (harg2.read_unread x1), ld_unit _ (harg3.read_unread x2)]
        rfl
      have b27 : kernelRun0_A.sl.v808 c arg1 harg1 arg2 harg2 arg3 harg3 arg5 arg8 x0 x1 x2 = acc (codes x0) x1 x2 26 (by decide) := by
        unfold kernelRun0_A.sl.v808 kernelRun0_A.sl.HS1_27 kernelRun0_A.sl.r_42 kernelRun0_A.sl.r_43 kernelRun0_A.sl.v755
        rw [View.readCov_full, pay_g26, b26, hc, ldc_unit, ld_unit _ (harg2.read_unread x1), ld_unit _ (harg3.read_unread x2)]
        rfl
      have b28 : kernelRun0_A.sl.v837 c arg1 harg1 arg2 harg2 arg3 harg3 arg5 arg8 x0 x1 x2 = acc (codes x0) x1 x2 27 (by decide) := by
        unfold kernelRun0_A.sl.v837 kernelRun0_A.sl.HS1_28 kernelRun0_A.sl.r_44 kernelRun0_A.sl.v784
        rw [View.readCov_full, pay_g27, b27, hc, ldc_unit, ld_unit _ (harg2.read_unread x1), ld_unit _ (harg3.read_unread x2)]
        rfl
      have b29 : kernelRun0_A.sl.v866 c arg1 harg1 arg2 harg2 arg3 harg3 arg5 arg8 x0 x1 x2 = acc (codes x0) x1 x2 28 (by decide) := by
        unfold kernelRun0_A.sl.v866 kernelRun0_A.sl.HS1_29 kernelRun0_A.sl.v813
        rw [View.readCov_full, pay_g28, b28, hc, ldc_unit, ld_unit _ (harg2.read_unread x1), ld_unit _ (harg3.read_unread x2)]
        rfl
      have b30 : kernelRun0_A.sl.v895 c arg1 harg1 arg2 harg2 arg3 harg3 arg5 arg8 x0 x1 x2 = acc (codes x0) x1 x2 29 (by decide) := by
        unfold kernelRun0_A.sl.v895 kernelRun0_A.sl.HS1_30 kernelRun0_A.sl.r_45 kernelRun0_A.sl.r_46 kernelRun0_A.sl.r_47 kernelRun0_A.sl.v842
        rw [View.readCov_full, pay_g29, b29, hc, ldc_unit, ld_unit _ (harg2.read_unread x1), ld_unit _ (harg3.read_unread x2)]
        rfl
      have b31 : kernelRun0_A.sl.v924 c arg1 harg1 arg2 harg2 arg3 harg3 arg5 arg8 x0 x1 x2 = acc (codes x0) x1 x2 30 (by decide) := by
        unfold kernelRun0_A.sl.v924 kernelRun0_A.sl.HS1_31 kernelRun0_A.sl.r_48 kernelRun0_A.sl.r_49 kernelRun0_A.sl.v871
        rw [View.readCov_full, pay_g30, b30, hc, ldc_unit, ld_unit _ (harg2.read_unread x1), ld_unit _ (harg3.read_unread x2)]
        rfl
      have b32 : kernelRun0_A.sl.v953 c arg1 harg1 arg2 harg2 arg3 harg3 arg5 arg8 x0 x1 x2 = acc (codes x0) x1 x2 31 (by decide) := by
        unfold kernelRun0_A.sl.v953 kernelRun0_A.sl.HS1_32 kernelRun0_A.sl.r_50 kernelRun0_A.sl.v900
        rw [View.readCov_full, pay_g31, b31, hc, ldc_unit, ld_unit _ (harg2.read_unread x1), ld_unit _ (harg3.read_unread x2)]
        rfl
      have b33 : kernelRun0_A.sl.v982 c arg1 harg1 arg2 harg2 arg3 harg3 arg5 arg8 x0 x1 x2 = acc (codes x0) x1 x2 32 (by decide) := by
        unfold kernelRun0_A.sl.v982 kernelRun0_A.sl.HS1_33 kernelRun0_A.sl.v929
        rw [View.readCov_full, pay_g32, b32, hc, ldc_unit, ld_unit _ (harg2.read_unread x1), ld_unit _ (harg3.read_unread x2)]
        rfl
      have b34 : kernelRun0_A.sl.v1011 c arg1 harg1 arg2 harg2 arg3 harg3 arg5 arg8 x0 x1 x2 = acc (codes x0) x1 x2 33 (by decide) := by
        unfold kernelRun0_A.sl.v1011 kernelRun0_A.sl.HS1_34 kernelRun0_A.sl.r_51 kernelRun0_A.sl.r_52 kernelRun0_A.sl.r_53 kernelRun0_A.sl.v958
        rw [View.readCov_full, pay_g33, b33, hc, ldc_unit, ld_unit _ (harg2.read_unread x1), ld_unit _ (harg3.read_unread x2)]
        rfl
      have b35 : kernelRun0_A.sl.v1040 c arg1 harg1 arg2 harg2 arg3 harg3 arg5 arg8 x0 x1 x2 = acc (codes x0) x1 x2 34 (by decide) := by
        unfold kernelRun0_A.sl.v1040 kernelRun0_A.sl.HS1_35 kernelRun0_A.sl.r_54 kernelRun0_A.sl.r_55 kernelRun0_A.sl.v987
        rw [View.readCov_full, pay_g34, b34, hc, ldc_unit, ld_unit _ (harg2.read_unread x1), ld_unit _ (harg3.read_unread x2)]
        rfl
      have b36 : kernelRun0_A.sl.v1069 c arg1 harg1 arg2 harg2 arg3 harg3 arg5 arg8 x0 x1 x2 = acc (codes x0) x1 x2 35 (by decide) := by
        unfold kernelRun0_A.sl.v1069 kernelRun0_A.sl.HS1_36 kernelRun0_A.sl.r_56 kernelRun0_A.sl.v1016
        rw [View.readCov_full, pay_g35, b35, hc, ldc_unit, ld_unit _ (harg2.read_unread x1), ld_unit _ (harg3.read_unread x2)]
        rfl
      have b37 : kernelRun0_A.sl.v1098 c arg1 harg1 arg2 harg2 arg3 harg3 arg5 arg8 x0 x1 x2 = acc (codes x0) x1 x2 36 (by decide) := by
        unfold kernelRun0_A.sl.v1098 kernelRun0_A.sl.HS1_37 kernelRun0_A.sl.v1045
        rw [View.readCov_full, pay_g36, b36, hc, ldc_unit, ld_unit _ (harg2.read_unread x1), ld_unit _ (harg3.read_unread x2)]
        rfl
      have b38 : kernelRun0_A.sl.v1127 c arg1 harg1 arg2 harg2 arg3 harg3 arg5 arg8 x0 x1 x2 = acc (codes x0) x1 x2 37 (by decide) := by
        unfold kernelRun0_A.sl.v1127 kernelRun0_A.sl.HS1_38 kernelRun0_A.sl.r_57 kernelRun0_A.sl.r_58 kernelRun0_A.sl.r_59 kernelRun0_A.sl.v1074
        rw [View.readCov_full, pay_g37, b37, hc, ldc_unit, ld_unit _ (harg2.read_unread x1), ld_unit _ (harg3.read_unread x2)]
        rfl
      have b39 : kernelRun0_A.sl.v1156 c arg1 harg1 arg2 harg2 arg3 harg3 arg5 arg8 x0 x1 x2 = acc (codes x0) x1 x2 38 (by decide) := by
        unfold kernelRun0_A.sl.v1156 kernelRun0_A.sl.HS1_39 kernelRun0_A.sl.r_60 kernelRun0_A.sl.r_61 kernelRun0_A.sl.v1103
        rw [View.readCov_full, pay_g38, b38, hc, ldc_unit, ld_unit _ (harg2.read_unread x1), ld_unit _ (harg3.read_unread x2)]
        rfl
      have b40 : kernelRun0_A.sl.v1185 c arg1 harg1 arg2 harg2 arg3 harg3 arg5 arg8 x0 x1 x2 = acc (codes x0) x1 x2 39 (by decide) := by
        unfold kernelRun0_A.sl.v1185 kernelRun0_A.sl.HS1_40 kernelRun0_A.sl.r_62 kernelRun0_A.sl.v1132
        rw [View.readCov_full, pay_g39, b39, hc, ldc_unit, ld_unit _ (harg2.read_unread x1), ld_unit _ (harg3.read_unread x2)]
        rfl
      have b41 : kernelRun0_A.sl.v1214 c arg1 harg1 arg2 harg2 arg3 harg3 arg5 arg8 x0 x1 x2 = acc (codes x0) x1 x2 40 (by decide) := by
        unfold kernelRun0_A.sl.v1214 kernelRun0_A.sl.HS1_41 kernelRun0_A.sl.v1161
        rw [View.readCov_full, pay_g40, b40, hc, ldc_unit, ld_unit _ (harg2.read_unread x1), ld_unit _ (harg3.read_unread x2)]
        rfl
      have b42 : kernelRun0_A.sl.v1243 c arg1 harg1 arg2 harg2 arg3 harg3 arg5 arg8 x0 x1 x2 = acc (codes x0) x1 x2 41 (by decide) := by
        unfold kernelRun0_A.sl.v1243 kernelRun0_A.sl.HS1_42 kernelRun0_A.sl.r_63 kernelRun0_A.sl.r_64 kernelRun0_A.sl.r_65 kernelRun0_A.sl.v1190
        rw [View.readCov_full, pay_g41, b41, hc, ldc_unit, ld_unit _ (harg2.read_unread x1), ld_unit _ (harg3.read_unread x2)]
        rfl
      have b43 : kernelRun0_A.sl.v1250 c arg1 harg1 arg2 harg2 arg3 harg3 arg5 arg8 x0 x1 x2 = acc (codes x0) x1 x2 42 (by decide) := by
        unfold kernelRun0_A.sl.v1250 kernelRun0_A.sl.HS1_43 kernelRun0_A.sl.r_66 kernelRun0_A.sl.r_67 kernelRun0_A.sl.v1219
        rw [View.readCov_full, pay_g42, b42, hc, ldc_unit, ld_unit _ (harg2.read_unread x1), ld_unit _ (harg3.read_unread x2)]
        rfl
      rw [View.read_writes_full]; unfold kernelRun0_A.sl.r_68 kernelRun0_A.sl.v1248 kernelRun0_A.sl.HS0_1 kernelRun0_A.sl.r_1; rw [b43, View.readCov_full, ld_full _ (harg1.read_unread x0)]; rfl
    isplitl [H4]
    · iexists _; isplitr; swap; · iexact H4
      ipureintro
      unfold kernelRun0_A.sl.H4_1 kernelRun0_A.sl.r kernelRun0_A.sl.r_2; rw [ld_full _ (harg1.read_unread x0), View.read_writes_full]; rfl
    isplitl [H5]
    · iexists _; isplitr; swap; · iexact H5
      ipureintro
      unfold kernelRun0_A.sl.r_1; rw [ld_full _ (harg1.read_unread x0), View.read_writes_full]; rfl
    isplitl [HS0]
    · iexists _; isplitr; swap; · iexact HS0
      ipureintro
      unfold kernelRun0_A.sl.HS0_1 kernelRun0_A.sl.r_1; rw [ld_full _ (harg1.read_unread x0), View.read_writes_full]; rfl
    iexists _, _; isplitr; swap; · iexact HS1
    ipureintro; rfl

end Cert.KernelIdeal.Val

end
-- ==== Proof.Run.lean ====
module

public import proofs.«01_k».proof.Proof.RunA
public import proofs.«01_k».proof.Proof.RunB
public import Idealize.ShloMosaic.Lib.Pipeline.TableIdle
public import Idealize.ShloMosaic.Lib.Claim

@[expose] public section

set_option maxRecDepth 16384

noncomputable section

namespace Cert.KernelIdeal.Val

open Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-- Each window's current staging memref at point `t`, spelled as the pipeline passes it (`bodyAt0`), and its wholeness. -/
abbrev ms0_0 (t : Fin cfg0.N) : Memref sig .tc .vmem S256x5504 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2752x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S43x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x5504 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x128 .f32 := Memref.whole cc0_scratch0
abbrev scM0_1 : Memref sig .tc .vmem S256x512 .f32 := Memref.whole cc0_scratch1

/-- The class's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The first grid point. -/
def t₀ : Fin cfg0.N := ⟨0, by rw [show cfg0.N = 7 from N_0]; decide⟩

/-- The activations, as the first point reads them. -/
def xs₀ (c : Dev nD) : Vec F S256x5504 .bf16 := iblk m c 0 t₀

/-- The proof data of the pipeline on core `c`: the arrays as the region finds them; after the body each input's buffer
    at its block, the first result's at the block of that point, the codes and the scale row at what the first point
    computes; the invariant holds the replicated scales in scratch from the second point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlock (codes (xs₀ m c)) (rep (xs₀ m c)) (iblk m c 1 t) (iblk m c 2 t)
    | ⟨4, _⟩ => codes (xs₀ m c)
    | ⟨5, _⟩ => row (xs₀ m c)
  Φ t := iprop(iprop((∃ d, iprop(⌜t.val ≠ 0 → d = rep (xs₀ m c)⌝ ∗ owns (c : Thread nD τ) scM0_0 fullShare d)) ∗ (∃ d, owns (c : Thread nD τ) scM0_1 fullShare d)) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yBlock (codes (xs₀ m c)) (rep (xs₀ m c)) (iblk m c 1 t) (iblk m c 2 t) := by dsimp only [dats]
theorem after0_4 (c : Dev nD) (t : Fin cfg0.N) : (dats m 0 c).after 4 t = codes (xs₀ m c) := by dsimp only [dats]
theorem after0_5 (c : Dev nD) (t : Fin cfg0.N) : (dats m 0 c).after 5 t = row (xs₀ m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem N7 (t : Fin cfg0.N) : t.val < 7 := lt_of_lt_of_eq t.isLt (show cfg0.N = 7 from N_0)

/-- The codes and the scale row are stored at the first point only. -/
theorem idle0_4 (t : Fin cfg0.N) (h : t.val ≠ 0) : cfg0.idle 4 (cfg0.grid.coords t) = true := by
  have hc : ¬ cond0_0 (grid0.coords t) := fun hh => h (by have := (hcond0_0 t).mp hh; have := N7 t; omega)
  show (!(k0_cond1 (grid0.coords t) == 1#1)) = true
  simpa using hc
theorem idle0_5 (t : Fin cfg0.N) (h : t.val ≠ 0) : cfg0.idle 5 (cfg0.grid.coords t) = true := idle0_4 t h
theorem live0_4 (t : Fin cfg0.N) (h : t.val = 0) : cfg0.idle 4 (cfg0.grid.coords t) = false := by
  have hc : cond0_0 (grid0.coords t) := (hcond0_0 t).mpr (by omega)
  show (!(k0_cond1 (grid0.coords t) == 1#1)) = false
  simpa using hc
theorem live0_5 (t : Fin cfg0.N) (h : t.val = 0) : cfg0.idle 5 (cfg0.grid.coords t) = false := live0_4 t h

theorem fresh0_4 : ∀ n, n < 6 → cfg0.fresh 4 (n + 1) = false
  | 0, h => by
    have hN : 0 < cfg0.N := by rw [show cfg0.N = 7 from N_0]; omega
    rw [Pipeline.Cfg.fresh_succ cfg0 4 0 hN, live0_4 ⟨0, hN⟩ rfl, Bool.false_and, Bool.or_false, Bool.eq_false_iff]
    exact fun hf => by have := (flush0_4 _).mp hf; dsimp only at this; omega
  | n + 1, h => by
    have hN : n + 1 < cfg0.N := by rw [show cfg0.N = 7 from N_0]; omega
    rw [Pipeline.Cfg.fresh_succ cfg0 4 (n + 1) hN, fresh0_4 n (by omega), Bool.and_false, Bool.or_false, Bool.eq_false_iff]
    exact fun hf => by have := (flush0_4 _).mp hf; dsimp only at this; omega
theorem fresh0_5 : ∀ n, n < 6 → cfg0.fresh 5 (n + 1) = false
  | 0, h => by
    have hN : 0 < cfg0.N := by rw [show cfg0.N = 7 from N_0]; omega
    rw [Pipeline.Cfg.fresh_succ cfg0 5 0 hN, live0_5 ⟨0, hN⟩ rfl, Bool.false_and, Bool.or_false, Bool.eq_false_iff]
    exact fun hf => by have := (flush0_5 _).mp hf; dsimp only at this; omega
  | n + 1, h => by
    have hN : n + 1 < cfg0.N := by rw [show cfg0.N = 7 from N_0]; omega
    rw [Pipeline.Cfg.fresh_succ cfg0 5 (n + 1) hN, fresh0_5 n (by omega), Bool.and_false, Bool.or_false, Bool.eq_false_iff]
    exact fun hf => by have := (flush0_5 _).mp hf; dsimp only at this; omega

/-- After the first point the codes' buffer holds the codes, and the scale row's the scale row. -/
theorem before0_4 (c : Dev nD) (t : Fin cfg0.N) (h : t.val ≠ 0) (d) : (dats m 0 c).before 4 t d = codes (xs₀ m c) := by
  rw [Dat.before_out_traj (dats m 0 c) 4 rfl (fun _ _ => rfl) (fun t _ _ _ => by rw [after0_4, after0_4]) t.val t rfl d]
  have hf : cfg0.fresh 4 t.val = false := by
    have := N7 t
    obtain ⟨n, hn⟩ : ∃ n, t.val = n + 1 := ⟨t.val - 1, by omega⟩
    rw [hn]; exact fresh0_4 n (by omega)
  rw [hf, if_neg Bool.false_ne_true, after0_4]
theorem before0_5 (c : Dev nD) (t : Fin cfg0.N) (h : t.val ≠ 0) (d) : (dats m 0 c).before 5 t d = row (xs₀ m c) := by
  rw [Dat.before_out_traj (dats m 0 c) 5 rfl (fun _ _ => rfl) (fun t _ _ _ => by rw [after0_5, after0_5]) t.val t rfl d]
  have hf : cfg0.fresh 5 t.val = false := by
    have := N7 t
    obtain ⟨n, hn⟩ : ∃ n, t.val = n + 1 := ⟨t.val - 1, by omega⟩
    rw [hn]; exact fresh0_5 n (by omega)
  rw [hf, if_neg Bool.false_ne_true, after0_5]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, ← after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, ← after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, ← after0_2]
theorem leaves0_3 (c : Dev nD) (t : Fin cfg0.N) :
    (dats m 0 c).leavesExact 3 t = owns (c : Thread nD τ) (ms0_3 t) fullShare (yBlock (codes (xs₀ m c)) (rep (xs₀ m c)) (iblk m c 1 t) (iblk m c 2 t)) := by
  unfold Dat.leavesExact; rw [show cfg0.idle 3 (cfg0.grid.coords t) = false from rfl, ← after0_3]

/-- Window 4 is left at the codes at every point. -/
theorem leaves0_4 (c : Dev nD) (t : Fin cfg0.N) :
    (owns (c : Thread nD τ) (ms0_4 t) fullShare (codes (xs₀ m c)) : sProp 𝕄) ⊢ (dats m 0 c).leavesExact 4 t := by
  by_cases h : t.val = 0
  · rw [show (dats m 0 c).leavesExact 4 t = owns (c : Thread nD τ) (ms0_4 t) fullShare (codes (xs₀ m c)) from by
      unfold Dat.leavesExact; rw [live0_4 t h, ← after0_4]]
  · by_cases hf : (cfg0.win 4).flush t = true
    · rw [show (dats m 0 c).leavesExact 4 t = owns (c : Thread nD τ) (ms0_4 t) fullShare (codes (xs₀ m c)) from by
        unfold Dat.leavesExact; rw [idle0_4 t h, hf, ← after0_4]]
    · rw [Dat.leavesExact_idle _ 4 t (idle0_4 t h) (by simpa using hf)]
      iintro H; iexists (codes (xs₀ m c)); rw [before0_4 m c t h]; iexact H
theorem leaves0_5 (c : Dev nD) (t : Fin cfg0.N) :
    (owns (c : Thread nD τ) (ms0_5 t) fullShare (row (xs₀ m c)) : sProp 𝕄) ⊢ (dats m 0 c).leavesExact 5 t := by
  by_cases h : t.val = 0
  · rw [show (dats m 0 c).leavesExact 5 t = owns (c : Thread nD τ) (ms0_5 t) fullShare (row (xs₀ m c)) from by
      unfold Dat.leavesExact; rw [live0_5 t h, ← after0_5]]
  · by_cases hf : (cfg0.win 5).flush t = true
    · rw [show (dats m 0 c).leavesExact 5 t = owns (c : Thread nD τ) (ms0_5 t) fullShare (row (xs₀ m c)) from by
        unfold Dat.leavesExact; rw [idle0_5 t h, hf, ← after0_5]]
    · rw [Dat.leavesExact_idle _ 5 t (idle0_5 t h) (by simpa using hf)]
      iintro H; iexists (row (xs₀ m c)); rw [before0_5 m c t h]; iexact H

set_option maxHeartbeats 1600000 in
/-- The body at any point: at the first it computes the codes and the scales, at every other it finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = iprop(iprop((∃ d, iprop(⌜t.val ≠ 0 → d = rep (xs₀ m c)⌝ ∗ owns (c : Thread nD τ) scM0_0 fullShare d)) ∗ (∃ d, owns (c : Thread nD τ) scM0_1 fullShare d)) ∗ (∃ r, prngReg c r)) from rfl]
  rw [show (dats m 0 c).Φ t.succ = iprop(iprop((∃ d, iprop(⌜t.val + 1 ≠ 0 → d = rep (xs₀ m c)⌝ ∗ owns (c : Thread nD τ) scM0_0 fullShare d)) ∗ (∃ d, owns (c : Thread nD τ) scM0_1 fullShare d)) ∗ (∃ r, prngReg c r)) from rfl]
  have hN : t.val < 7 := N7 t
  rw [leaves0_0, leaves0_1, leaves0_2, leaves0_3]
  by_cases h0 : t.val = 0
  · obtain rfl : t = t₀ := Fin.ext h0
    iintro ⟨⟨⟨⟨%e0, -, HS0⟩, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t₀) _ _ _ _ _ _ _ _ _ _ _ _ _ _ _ _ ((hcond0_0 t₀).mpr (by decide)) (iblk m c 0 t₀) (iblk m c 1 t₀) (iblk m c 2 t₀)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexists _; iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact fun _ => rfl
        iexact HS1
      iexact Hg
    isplitl [Ho]; · iexact Ho
    isplitl [H0]; · iexact H0
    isplitl [H1]; · iexact H1
    isplitl [H2]; · iexact H2
    isplitl [H3]; · iexact H3
    isplitl [H4]; · iapply (leaves0_4 m c t₀); iexact H4
    iapply (leaves0_5 m c t₀); iexact H5
  · simp only [before0_4 m c t h0, before0_5 m c t h0]
    iintro ⟨⟨⟨⟨%e0, %he, HS0⟩, HS1⟩, Hg⟩, Ho, ⟨%d0, H0⟩, ⟨%d1, H1⟩, ⟨%d2, H2⟩, ⟨%d3, H3⟩, ⟨%d4, H4⟩, ⟨%d5, H5⟩⟩
    obtain rfl := he h0
    iapply ((kernelRun0_B c (grid0.coords t) _ _ _ _ _ _ _ _ _ _ _ _ _ _ _ _ (fun h => h0 (by have := (hcond0_0 t).mp h; omega)) (iblk m c 0 t) (codes (xs₀ m c)) (row (xs₀ m c)) (rep (xs₀ m c)) (iblk m c 1 t) (iblk m c 2 t)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact fun _ => rfl
        iexact HS1
      iexact Hg
    isplitl [Ho]; · iexact Ho
    isplitl [H0]; · iexact H0
    isplitl [H1]; · iexact H1
    isplitl [H2]; · iexact H2
    isplitl [H3]; · iexact H3
    isplitl [H4]; · iapply (leaves0_4 m c t); iexact H4
    iapply (leaves0_5 m c t); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [PhiA0_eq]
  rw [show (dats m 0 c).Φ 0 = iprop(iprop((∃ d, iprop(⌜(0 : ℕ) ≠ 0 → d = rep (xs₀ m c)⌝ ∗ owns (c : Thread nD τ) scM0_0 fullShare d)) ∗ (∃ d, owns (c : Thread nD τ) scM0_1 fullShare d)) ∗ (∃ r, prngReg c r)) from rfl]
  iintro ⟨⟨⟨%d, HS0⟩, HS1⟩, Hg⟩
  isplitl [HS0 HS1]
  · isplitl [HS0]
    · iexists d; isplitr; swap; · iexact HS0
      ipureintro; exact fun h => absurd rfl h
    iexact HS1
  iexact Hg

theorem Phi_out (c : Dev nD) : (dats m 0 c).Φ (Fin.last cfg0.N) ⊢ (Pipeline.ΦA spec0 c : sProp 𝕄) := by
  rw [PhiA0_eq]
  rw [show (dats m 0 c).Φ (Fin.last cfg0.N) = iprop(iprop((∃ d, iprop(⌜cfg0.N ≠ 0 → d = rep (xs₀ m c)⌝ ∗ owns (c : Thread nD τ) scM0_0 fullShare d)) ∗ (∃ d, owns (c : Thread nD τ) scM0_1 fullShare d)) ∗ (∃ r, prngReg c r)) from rfl]
  iintro ⟨⟨⟨%d, -, HS0⟩, HS1⟩, Hg⟩
  isplitl [HS0 HS1]
  · isplitl [HS0]
    · iexists d; iexact HS0
    iexact HS1
  iexact Hg

set_option backward.isDefEq.respectTransparency.types false in
/-- The launch: every array of the pipeline ends at what the proof data says, every other buffer as the region found it,
    and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Val

end
-- ==== Proof.Word.lean ====
module

public import proofs.«01_k».proof.Defs
public import proofs.«01_k».proof.Proof.Gen.Kernel
public import proofs.«01_k».proof.Proof.Run

@[expose] public section

set_option maxRecDepth 16384

namespace Cert.Kernel.Val

open Idealize.ShloMosaic Idealize.ShloMosaic.TcCoe Idealize.SL.Sem

/-- The body tables of the two printings of the kernel are the same: label for label, the same text. -/
theorem defs₀_eq : Cert.Kernel.defs₀ (F := Bits) = Cert.KernelIdeal.defs₀ (F := Bits) := by
  unfold Cert.Kernel.defs₀ Cert.KernelIdeal.defs₀
  congr 1
  funext ℓ a
  obtain ⟨_ | n, h⟩ := ℓ
  · rfl
  · exact absurd h (Nat.not_lt.2 (Nat.le_add_left _ _))

/-- The kernel on words terminates without fault, leaves its arguments as they were and its semaphores at zero.
    `Cert.KernelIdeal.Val.frame_main` holds at every instance of the floats, so at words too. -/
theorem frame : Cert.quiescent_Kernel (hKernel := Cert.Kernel.Gen.facts) := by
  intro m g _
  have h := Cert.KernelIdeal.Val.frame_main (F := Bits) m g
  unfold Cert.Kernel.defs
  rw [defs₀_eq]
  exact h

end Cert.Kernel.Val
-- ==== Proof.Expo.lean ====
module

public import Idealize.ShloMosaic.Lib.Pointwise

@[expose] public section

set_option maxRecDepth 16384

noncomputable section

namespace Cert.Expo

open Idealize.ShloMosaic Idealize.ShloMosaic.TcCoe

/-- The number of the powers of two 2^-126, …, 2^127 and of infinity that a quotient reaches: the exponent field of its f32 word. -/
def kCount (r : EReal) : BitVec 32 :=
  Finset.fold IntOp.addi (0#32)
    (fun k : Fin 255 =>
      if Ideal.ofBits FTy.f32 (IntOp.shli ArithUnit.vector (IntOp.addi (BitVec.ofNat 32 k.val) 1#32) 23#32) ≤ r then 1#32 else 0#32)
    Finset.univ

/-- The exponent the kernel takes for a row whose greatest magnitude is `a`. -/
def kExp (a : EReal) : BitVec 32 :=
  Scalar.select
    (IntOp.ori
      (IntOp.ori (IntOp.cmpi CmpIPredicate.eq (kCount (a * Ideal.ofBits FTy.f32 991054117#32)) 0#32)
        (IntOp.cmpi CmpIPredicate.eq (kCount (a * Ideal.ofBits FTy.f32 991054117#32)) 255#32))
      (BitVec.ofBool (decide (a = 0))))
    (0#32)
    (IntOp.subi (kCount (a * Ideal.ofBits FTy.f32 991054117#32)) 126#32)

/-- The scale and its inverse, as the kernel builds them from the exponent. -/
def kScale (a : EReal) : EReal := Ideal.ofBits FTy.f32 (IntOp.shli ArithUnit.vector (IntOp.addi 127#32 (kExp a)) 23#32)
def kInv (a : EReal) : EReal := Ideal.ofBits FTy.f32 (IntOp.shli ArithUnit.vector (IntOp.subi 127#32 (kExp a)) 23#32)

/-- The quotient with a subnormal one read as zero. -/
def rQuot (a : EReal) : EReal :=
  if a * Ideal.ofBits FTy.f32 991054117#32 < Ideal.ofBits FTy.f32 8388608#32 then 0 else a * Ideal.ofBits FTy.f32 991054117#32

/-- The exponent of the reference. -/
def rExp (a : EReal) : EReal :=
  if a = 0 then 0
  else
    Scalar.select
      (IntOp.ori (BitVec.ofBool (decide (rQuot a = 0))) (BitVec.ofBool (decide (rQuot a = Ideal.ofBits FTy.f32 2139095040#32))))
      0
      (Ideal.liftRound Int.floor (Ideal.div (Ideal.log (rQuot a)) (Ideal.log (Ideal.ofBits FTy.f32 1073741824#32))) + 1)

/-! ### Words of powers of two -/

theorem field_eq : ∀ n : Fin 256, ((IntOp.shli ArithUnit.vector (BitVec.ofNat 32 n.val) 23#32).extractLsb' 23 8).toNat = n.val
    ∧ ((IntOp.shli ArithUnit.vector (BitVec.ofNat 32 n.val) 23#32).extractLsb' 0 23).toNat = 0
    ∧ ((IntOp.shli ArithUnit.vector (BitVec.ofNat 32 n.val) 23#32).extractLsb' 31 1) = 0#1 := by decide +kernel

theorem ofBits_f32 (b : BitVec 32) : Ideal.ofBits FTy.f32 b = Ideal.ieee 8 23 b := rfl

theorem two_zpow (n : ℕ) : (2:ℝ) ^ 23 * (2:ℝ) ^ ((n:ℤ) - (2 ^ (8 - 1) - 1) - (23:ℕ)) = (2:ℝ) ^ ((n:ℤ) - 127) := by
  rw [← zpow_natCast (2:ℝ) 23, ← zpow_add₀ (by norm_num : (2:ℝ) ≠ 0)]; congr 1; push_cast; ring

/-- The word with exponent field `n` and nothing else is `2^(n-127)`. -/
theorem ofBits_pow (n : ℕ) (h1 : 1 ≤ n) (h2 : n ≤ 254) :
    Ideal.ofBits FTy.f32 (IntOp.shli ArithUnit.vector (BitVec.ofNat 32 n) 23#32) = (((2:ℝ) ^ ((n:ℤ) - 127) : ℝ) : EReal) := by
  obtain ⟨he, hf, hs⟩ := field_eq ⟨n, by omega⟩
  dsimp only at he hf hs
  rw [ofBits_f32]
  unfold Ideal.ieee
  dsimp only
  rw [he, hf, show (8 + 23) = 31 from rfl, hs]
  have c1 : ¬ n = 2 ^ 8 - 1 := by norm_num; omega
  have c2 : ¬ n = 0 := by omega
  rw [if_neg c1, if_neg c2, ← two_zpow]
  refine congrArg Real.toEReal ?_
  norm_num

theorem ofBits_top : Ideal.ofBits FTy.f32 (IntOp.shli ArithUnit.vector (BitVec.ofNat 32 255) 23#32) = ⊤ := by
  obtain ⟨he, hf, hs⟩ := field_eq ⟨255, by omega⟩
  dsimp only at he hf hs
  rw [ofBits_f32]
  unfold Ideal.ieee
  dsimp only
  rw [he, hf, show (8 + 23) = 31 from rfl, hs]
  norm_num

theorem inf_eq : Ideal.ofBits FTy.f32 2139095040#32 = ⊤ := by
  rw [← ofBits_top]; congr 1
theorem ninf_eq : Ideal.ofBits FTy.f32 4286578688#32 = ⊥ := by
  rw [ofBits_f32]
  unfold Ideal.ieee
  dsimp only
  rw [show ((4286578688#32).extractLsb' 23 8).toNat = 255 by decide, show ((4286578688#32).extractLsb' 0 23).toNat = 0 by decide,
    show ((4286578688#32).extractLsb' (8+23) 1) = 1#1 by decide]
  norm_num
theorem two_eq : Ideal.ofBits FTy.f32 1073741824#32 = ((2:ℝ) : EReal) := by
  have h := ofBits_pow 128 (by norm_num) (by norm_num)
  rw [show (1073741824#32) = IntOp.shli ArithUnit.vector (BitVec.ofNat 32 128) 23#32 by decide, h]
  norm_num
theorem min_eq : Ideal.ofBits FTy.f32 8388608#32 = (((2:ℝ) ^ (-126:ℤ) : ℝ) : EReal) := by
  have h := ofBits_pow 1 (by norm_num) (by norm_num)
  rw [show (8388608#32) = IntOp.shli ArithUnit.vector (BitVec.ofNat 32 1) 23#32 by decide, h]
  norm_num

/-- The reciprocal of 448, as the word says it. -/
theorem recip_eq : Ideal.ofBits FTy.f32 991054117#32 = (((9586981:ℝ) * (2:ℝ) ^ (-32:ℤ) : ℝ) : EReal) := by
  rw [ofBits_f32]
  unfold Ideal.ieee
  dsimp only
  rw [show ((991054117#32).extractLsb' 23 8).toNat = 118 by decide, show ((991054117#32).extractLsb' 0 23).toNat = 1198373 by decide,
    show ((991054117#32).extractLsb' (8+23) 1) = 0#1 by decide]
  norm_num

/-- The greatest finite bf16 number. -/
theorem big_eq : Ideal.ofBits FTy.f32 0x7F7F0000#32 = (((255:ℝ) * (2:ℝ) ^ (120:ℤ) : ℝ) : EReal) := by
  rw [ofBits_f32]
  unfold Ideal.ieee
  dsimp only
  rw [show ((0x7F7F0000#32).extractLsb' 23 8).toNat = 254 by decide, show ((0x7F7F0000#32).extractLsb' 0 23).toNat = 8323072 by decide,
    show ((0x7F7F0000#32).extractLsb' (8+23) 1) = 0#1 by decide]
  norm_num

/-! ### Counting -/

theorem fold_count {n : ℕ} (s : Finset (Fin n)) (p : Fin n → Prop) [DecidablePred p] :
    Finset.fold IntOp.addi (0#32) (fun k => if p k then 1#32 else 0#32) s = BitVec.ofNat 32 (s.filter p).card := by
  classical
  induction s using Finset.induction_on with
  | empty => rfl
  | insert a s ha ih =>
    rw [Finset.fold_insert ha, ih, Finset.filter_insert]
    by_cases h : p a
    · rw [if_pos h, if_pos h, Finset.card_insert_of_notMem (by simp [ha])]
      show 1#32 + _ = _
      rw [BitVec.ofNat_add, BitVec.add_comm]
    · rw [if_neg h, if_neg h]
      show 0#32 + _ = _
      rw [BitVec.zero_add]

theorem addi_ofNat (k : ℕ) : IntOp.addi (BitVec.ofNat 32 k) 1#32 = BitVec.ofNat 32 (k + 1) := by
  rw [BitVec.ofNat_add]; rfl

/-- The count is `n` when the first `n` of the numbers are reached and the others are not. -/
theorem kCount_eq (r : EReal) (n : ℕ) (hn : n ≤ 255)
    (h : ∀ k, 1 ≤ k → k ≤ 255 → (Ideal.ofBits FTy.f32 (IntOp.shli ArithUnit.vector (BitVec.ofNat 32 k) 23#32) ≤ r ↔ k ≤ n)) :
    kCount r = BitVec.ofNat 32 n := by
  unfold kCount
  rw [fold_count]
  congr 1
  rw [Finset.filter_congr (q := fun k : Fin 255 => k.val < n) (fun k _ => by
    rw [addi_ofNat, h (k.val + 1) (by omega) (by omega)]; omega)]
  rw [Fin.card_filter_val_lt]; omega

theorem kCount_top : kCount ⊤ = 255#32 :=
  kCount_eq ⊤ 255 (by omega) fun k h1 h2 => ⟨fun _ => h2, fun _ => le_top⟩

theorem kCount_small (r : EReal) (h : r < Ideal.ofBits FTy.f32 8388608#32) : kCount r = 0#32 := by
  refine kCount_eq r 0 (by omega) fun k h1 h2 => ⟨fun hk => ?_, fun hk => by omega⟩
  exfalso
  refine absurd (lt_of_le_of_lt hk h) (not_lt.mpr ?_)
  rw [min_eq]
  rcases Nat.lt_or_ge k 255 with hk' | hk'
  · rw [ofBits_pow k h1 (by omega), EReal.coe_le_coe_iff]
    exact zpow_le_zpow_right₀ (by norm_num) (by omega)
  · obtain rfl : k = 255 := by omega
    rw [ofBits_top]; exact le_top

/-- The whole exponent of a positive real. -/
def ilog (ρ : ℝ) : ℤ := ⌊Real.log ρ * (Real.log 2)⁻¹⌋

theorem le_ilog (ρ : ℝ) (h : 0 < ρ) (z : ℤ) : (2:ℝ) ^ z ≤ ρ ↔ z ≤ ilog ρ := by
  have h2 : 0 < Real.log 2 := Real.log_pos (by norm_num)
  unfold ilog
  rw [Int.le_floor, ← div_eq_mul_inv, le_div_iff₀ h2, ← Real.log_zpow, Real.log_le_log_iff (by positivity) h]

theorem kCount_mid (ρ : ℝ) (f : ℤ) (h0 : 0 < ρ) (hf : ilog ρ = f) (h1 : -126 ≤ f) (h2 : f ≤ 126) :
    kCount (ρ : EReal) = BitVec.ofNat 32 (f + 127).toNat := by
  refine kCount_eq _ _ (by omega) fun k hk1 hk2 => ?_
  rcases Nat.lt_or_ge k 255 with hk' | hk'
  · rw [ofBits_pow k hk1 (by omega), EReal.coe_le_coe_iff]
    rw [le_ilog ρ h0, hf]; omega
  · obtain rfl : k = 255 := by omega
    rw [ofBits_top]
    constructor
    · intro h; exact absurd (top_le_iff.mp h) (EReal.coe_ne_top ρ)
    · intro h; omega

/-! ### The two exponents agree -/

theorem exp2_int (z : ℤ) : Ideal.exp2 (((z:ℤ) : ℝ) : EReal) = (((2:ℝ) ^ z : ℝ) : EReal) := by
  show ((Real.rpow 2 (z:ℝ) : ℝ) : EReal) = _
  congr 1
  exact Real.rpow_intCast 2 z

theorem word_add : ∀ n : Fin 254, IntOp.addi 127#32 (BitVec.ofInt 32 ((n.val:ℤ) - 126)) = BitVec.ofNat 32 (n.val + 1) := by decide +kernel
theorem word_sub : ∀ n : Fin 254, IntOp.subi 127#32 (BitVec.ofInt 32 ((n.val:ℤ) - 126)) = BitVec.ofNat 32 (253 - n.val) := by decide +kernel
theorem word_exp : ∀ n : Fin 256, IntOp.subi (BitVec.ofNat 32 n.val) 126#32 = BitVec.ofInt 32 ((n.val:ℤ) - 126) := by decide +kernel

/-- The common exponent of a row, an integer. -/
theorem exps (a : EReal) (h0 : 0 ≤ a) (h : a = ⊤ ∨ a ≤ Ideal.ofBits FTy.f32 0x7F7F0000#32) :
    ∃ z : ℤ, -126 ≤ z ∧ z ≤ 126 ∧ kExp a = BitVec.ofInt 32 z ∧ rExp a = ((z : ℝ) : EReal) := by
  have zero : kExp a = 0#32 → rExp a = 0 → ∃ z : ℤ, -126 ≤ z ∧ z ≤ 126 ∧ kExp a = BitVec.ofInt 32 z ∧ rExp a = ((z : ℝ) : EReal) := by
    intro hk hr
    refine ⟨0, by omega, by omega, ?_, ?_⟩
    · rw [hk]; rfl
    · rw [hr]; norm_num
  by_cases ha : a = 0
  · refine zero ?_ ?_
    · unfold kExp; rw [decide_eq_true ha]
      generalize kCount _ = n
      unfold Scalar.select
      rw [if_pos]
      show (_ ||| 1#1) = 1#1
      generalize (IntOp.ori _ _ : BitVec 1) = b
      revert b; decide
    · unfold rExp; rw [if_pos ha]
  rcases h with rfl | hb
  · have ht : (⊤ : EReal) * Ideal.ofBits FTy.f32 991054117#32 = ⊤ := by
      rw [recip_eq]; exact EReal.top_mul_coe_of_pos (by positivity)
    refine zero ?_ ?_
    · unfold kExp; rw [ht, kCount_top, decide_eq_false ha]; rfl
    · unfold rExp rQuot; rw [if_neg ha, ht, min_eq, if_neg (by simp), inf_eq]
      simp [Scalar.select, IntOp.ori]
  · obtain ⟨α, rfl⟩ : ∃ α : ℝ, a = (α : EReal) := by
      rw [big_eq] at hb
      refine ⟨a.toReal, (EReal.coe_toReal ?_ ?_).symm⟩
      · rintro rfl; exact absurd (top_le_iff.mp hb) (EReal.coe_ne_top _)
      · rintro rfl; exact absurd h0 (by simp)
    rw [big_eq, EReal.coe_le_coe_iff] at hb
    have hα : 0 < α := by
      rcases lt_or_eq_of_le h0 with h | h
      · exact_mod_cast h
      · exact absurd h.symm ha
    set ρ : ℝ := α * ((9586981:ℝ) * (2:ℝ) ^ (-32:ℤ)) with hρ
    have hq : (α : EReal) * Ideal.ofBits FTy.f32 991054117#32 = (ρ : EReal) := by
      rw [recip_eq, hρ, ← EReal.coe_mul]
    have hρ0 : 0 < ρ := by rw [hρ]; positivity
    have hρb : ρ < (2:ℝ) ^ (120:ℤ) := by
      rw [hρ]
      calc α * ((9586981:ℝ) * (2:ℝ) ^ (-32:ℤ)) ≤ ((255:ℝ) * (2:ℝ) ^ (120:ℤ)) * ((9586981:ℝ) * (2:ℝ) ^ (-32:ℤ)) :=
            mul_le_mul_of_nonneg_right hb (by positivity)
        _ < (2:ℝ) ^ (120:ℤ) := by norm_num
    by_cases hs : ρ < (2:ℝ) ^ (-126:ℤ)
    · have hs' : (ρ : EReal) < Ideal.ofBits FTy.f32 8388608#32 := by rw [min_eq]; exact_mod_cast hs
      refine zero ?_ ?_
      · unfold kExp; rw [hq, kCount_small _ hs', decide_eq_false ha]; rfl
      · unfold rExp rQuot; rw [if_neg ha, hq, if_pos hs']
        simp [Scalar.select, IntOp.ori, inf_eq]
    · have hs' : ¬ (ρ : EReal) < Ideal.ofBits FTy.f32 8388608#32 := by rw [min_eq]; exact_mod_cast hs
      have hf1 : -126 ≤ ilog ρ := (le_ilog ρ hρ0 _).mp (not_lt.mp hs)
      have hf2 : ilog ρ < 120 := not_le.mp fun h => absurd ((le_ilog ρ hρ0 120).mpr h) (not_le.mpr hρb)
      refine ⟨ilog ρ + 1, by omega, by omega, ?_, ?_⟩
      · unfold kExp
        rw [hq, kCount_mid ρ _ hρ0 rfl hf1 (by omega), decide_eq_false ha]
        obtain ⟨n, hn, hn1, hn2⟩ : ∃ n : ℕ, (ilog ρ + 127).toNat = n ∧ 1 ≤ n ∧ n ≤ 253 := ⟨_, rfl, by omega, by omega⟩
        rw [hn]
        have hz : ilog ρ + 1 = (n:ℤ) - 126 := by omega
        have hw := word_exp ⟨n, by omega⟩
        dsimp only at hw
        rw [hz, ← hw]
        have hsel : ∀ n : Fin 254, 1 ≤ n.val → IntOp.ori
          (IntOp.ori (IntOp.cmpi CmpIPredicate.eq (BitVec.ofNat 32 n.val) 0#32)
            (IntOp.cmpi CmpIPredicate.eq (BitVec.ofNat 32 n.val) 255#32))
          (BitVec.ofBool false) = 0#1 := by decide +kernel
        have := hsel ⟨n, by omega⟩ hn1
        dsimp only at this
        rw [this]; rfl
      · have hne0 : (ρ : EReal) ≠ 0 := by exact_mod_cast hρ0.ne'
        unfold rExp rQuot
        rw [if_neg ha, hq, if_neg hs', inf_eq, two_eq, decide_eq_false hne0, decide_eq_false (EReal.coe_ne_top ρ)]
        have hl : Ideal.log (ρ : EReal) = ((Real.log ρ : ℝ) : EReal) := if_neg (not_le.mpr hρ0)
        have hl2 : Ideal.log ((2:ℝ) : EReal) = ((Real.log 2 : ℝ) : EReal) := if_neg (by norm_num)
        have h2 : Real.log 2 ≠ 0 := (Real.log_pos (by norm_num)).ne'
        rw [hl, hl2]
        have hd : Ideal.div ((Real.log ρ : ℝ) : EReal) ((Real.log 2 : ℝ) : EReal) = ((Real.log ρ * (Real.log 2)⁻¹ : ℝ) : EReal) := by
          unfold Ideal.div
          rw [if_neg (by exact_mod_cast h2), ← EReal.coe_inv, ← EReal.coe_mul]
        rw [hd]
        show (((ilog ρ : ℤ) : ℝ) : EReal) + 1 = _
        push_cast
        rfl

/-- The kernel's scale and inverse scale are the reference's. -/
theorem scale_eq (a : EReal) (h0 : 0 ≤ a) (h : a = ⊤ ∨ a ≤ Ideal.ofBits FTy.f32 0x7F7F0000#32) :
    kScale a = Ideal.exp2 (rExp a) ∧ kInv a = Ideal.exp2 (0 - rExp a) := by
  obtain ⟨z, hz1, hz2, hk, hr⟩ := exps a h0 h
  unfold kScale kInv
  obtain ⟨n, hn, hn2⟩ : ∃ n : ℕ, z = (n:ℤ) - 126 ∧ n ≤ 252 := ⟨(z + 126).toNat, by omega, by omega⟩
  have ha := word_add ⟨n, by omega⟩
  have hs := word_sub ⟨n, by omega⟩
  dsimp only at ha hs
  rw [hk, hr, hn, ha, hs, ofBits_pow _ (by omega) (by omega), ofBits_pow _ (by omega) (by omega)]
  constructor
  · rw [exp2_int]; congr 2; push_cast; ring
  · have : (0:EReal) - ((((n:ℤ) - 126 : ℤ) : ℝ) : EReal) = (((126 - (n:ℤ) : ℤ) : ℝ) : EReal) := by
      rw [← EReal.coe_zero, ← EReal.coe_sub]; congr 1; push_cast; ring
    rw [this, exp2_int]; congr 2; omega

end Cert.Expo

end
-- ==== Proof.KVal.lean ====
module

public import proofs.«01_k».proof.Proof.Body
public import proofs.«01_k».proof.Proof.Expo

@[expose] public section

set_option maxRecDepth 16384

noncomputable section

namespace Cert.KernelIdeal.Val

open Idealize.ShloMosaic Idealize.ShloMosaic.TcCoe
open Cert.KernelIdeal.Gen Cert.KernelIdeal.Facts Cert.Expo

/-- The greatest magnitude of a row. -/
def rowMax (x : Fin 5504 → EReal) : EReal :=
  Finset.fold max (Ideal.ofBits FTy.f32 4286578688#32) (fun k => FloatOps.absf (F := Ideal) (φ := .f32) (x k)) Finset.univ

/-- The activation function, in its tanh form. -/
def gelu (v : EReal) : EReal :=
  Ideal.ofBits FTy.f32 1056964608#32 * v
    * (1 + Ideal.tanh (Ideal.ofBits FTy.f32 1061962282#32 * (v + Ideal.ofBits FTy.f32 1027024659#32 * v * v * v)))

/-- A code: a number times the inverse scale, clipped to ±448. -/
def code (x i : EReal) : EReal := min (Ideal.ofBits FTy.f32 1138753536#32) (max (Ideal.ofBits FTy.f32 3286237184#32) (x * i))

/-- The weight code the kernel reads from a packed byte: of the low half at `h = 0`, of the high half at `h = 1`. -/
def kNib (b : BitVec 8) (h : Nat) : BitVec 32 :=
  if h < 1 then IntOp.shrsi ArithUnit.vector (IntOp.shli ArithUnit.vector (BitVec.setWidth 32 b) 28#32) 28#32
  else IntOp.shrsi ArithUnit.vector (IntOp.shli ArithUnit.vector (BitVec.setWidth 32 b) 24#32) 28#32

theorem exp_apply (x : Vec Ideal S256x5504 .bf16) (t : Fin 256) :
    k0_pay3 (F := Ideal) x (ix2 t 0) = kExp (rowMax fun k => x (ix2 t k)) := by
  pointwise [k0_pay3, k0_pay2]
  rfl

theorem codes_apply (x : Vec Ideal S256x5504 .bf16) (t : Fin 256) (k : Fin 5504) :
    codes (F := Ideal) x (ix2 t k) = code (x (ix2 t k)) (kInv (rowMax fun k => x (ix2 t k))) := by
  pointwise [codes, k0_pay6, k0_pay2, k0_pay5]
  rw [exp_apply]; rfl

theorem rep_apply (x : Vec Ideal S256x5504 .bf16) (t : Fin 256) (k : Fin 128) :
    rep (F := Ideal) x (ix2 t k) = kScale (rowMax fun k => x (ix2 t k)) := by
  pointwise [rep, k0_pay8, k0_pay7, k0_pay4]
  rw [exp_apply]; rfl

theorem row_apply (x : Vec Ideal S256x5504 .bf16) (t : Fin 256) :
    row (F := Ideal) x (ix2 0 t) = kScale (rowMax fun k => x (ix2 t k)) := by
  pointwise [row, k0_pay9, k0_pay7, k0_pay4]
  rw [exp_apply]; rfl

theorem wcodes_apply (w : Vec Ideal S64x512 .i8) (k : Fin 128) (j : Fin 512) :
    wcodes (F := Ideal) w (ix2 k j) = FloatOps.sitofp (F := Ideal) FTy.bf16 (kNib (w (ix2 ⟨k.val / 2, by omega⟩ j)) (k.val % 2)) := by
  pointwise [wcodes]
  rfl

theorem term_apply (xc : Vec Ideal S256x5504 .fp8e4m3) (x1 : Vec Ideal S2752x512 .i8) (x2 : Vec Ideal S43x512 .f32) (g : Nat) (hg : g < 43)
    (t : Fin 256) (j : Fin 512) :
    term (F := Ideal) xc x1 x2 g hg (ix2 t j)
      = (∑ k : Fin 128, xc (ix2 t ⟨g * 128 + k.val, by omega⟩)
          * FloatOps.sitofp (F := Ideal) FTy.bf16 (kNib (x1 (ix2 ⟨(g * 128 + k.val) / 2, by omega⟩ j)) ((g * 128 + k.val) % 2)))
        * x2 (ix2 ⟨g, hg⟩ j) := by
  pointwise [term, grp, VecWindow.window]
  have e2 : (Rect.unit (s := S43x512) ![g, 0] ![1, 512] (inbS g (by omega))).emb (ix2 0 j) = ix2 ⟨g, hg⟩ j := by
    funext a; apply Fin.ext
    match a with
    | ⟨0, _⟩ => show g + 1 * 0 = g; omega
    | ⟨1, _⟩ => show 0 + 1 * j.val = j.val; omega
  have e1 : ∀ k : Fin 128, (Rect.unit (s := S256x5504) ![0, 128 * g] ![256, 128] (inbX (128 * g) (by omega))).emb (ix2 t k) = ix2 t ⟨g * 128 + k.val, by omega⟩ := by
    intro k
    funext a; apply Fin.ext
    match a with
    | ⟨0, _⟩ => show 0 + 1 * t.val = t.val; omega
    | ⟨1, _⟩ => show 128 * g + 1 * k.val = g * 128 + k.val; omega
  have e3 : ∀ k : Fin 64, (Rect.unit (s := S2752x512) ![64 * g, 0] ![64, 512] (inbW (64 * g) (by omega))).emb (ix2 k j) = ix2 ⟨64 * g + k.val, by omega⟩ j := by
    intro k
    funext a; apply Fin.ext
    match a with
    | ⟨0, _⟩ => show 64 * g + 1 * k.val = 64 * g + k.val; omega
    | ⟨1, _⟩ => show 0 + 1 * j.val = j.val; omega
  rw [e2]
  refine congrArg (· * _) (Finset.sum_congr rfl fun k _ => ?_)
  rw [e1, wcodes_apply]
  show _ * FloatOps.sitofp (F := Ideal) FTy.bf16 (kNib (x1 ((Rect.unit (s := S2752x512) ![64 * g, 0] ![64, 512] (inbW (64 * g) (by omega))).emb (ix2 ⟨k.val / 2, by omega⟩ j))) (k.val % 2)) = _
  rw [e3]
  have h1 : 64 * g + k.val / 2 = (g * 128 + k.val) / 2 := by omega
  have h2 : k.val % 2 = (g * 128 + k.val) % 2 := by omega
  simp only [h1, h2]

theorem acc_apply (xc : Vec Ideal S256x5504 .fp8e4m3) (x1 : Vec Ideal S2752x512 .i8) (x2 : Vec Ideal S43x512 .f32)
    (t : Fin 256) (j : Fin 512) : ∀ (g : Nat) (hg : g < 43),
    acc (F := Ideal) xc x1 x2 g hg (ix2 t j) = ∑ i : Fin (g + 1), term (F := Ideal) xc x1 x2 i.val (by omega) (ix2 t j)
  | 0, hg => by
    rw [Fin.sum_univ_castSucc]; simp [acc]
  | g + 1, hg => by
    rw [Fin.sum_univ_castSucc]
    have := acc_apply xc x1 x2 t j g (by omega)
    show (acc (F := Ideal) xc x1 x2 g (by omega) (ix2 t j) : EReal) + term (F := Ideal) xc x1 x2 (g + 1) hg (ix2 t j) = _
    rw [this]; rfl

theorem scaled_apply (rp : Vec Ideal S256x128 .f32) (ac : Vec Ideal S256x512 .f32) (t : Fin 256) (j : Fin 512) (r : EReal)
    (h : ∀ l : Fin 128, rp (ix2 t l) = r) : k0_pay118 (F := Ideal) rp ac (ix2 t j) = (ac (ix2 t j) * r : EReal) := by
  pointwise [k0_pay118]
  simp only [h, dite_eq_ite, ite_self]

theorem gelu_apply (v : FVec Ideal S256x512 .f32) (t : Fin 256) (j : Fin 512) :
    k0_pay1 (F := Ideal) v k0_pay119 (ix2 t j) = gelu (v (ix2 t j)) := by
  pointwise [k0_pay1, k0_pay119]
  rfl

/-- The first result's block at an index. -/
theorem yBlock_apply (xc : Vec Ideal S256x5504 .fp8e4m3) (rp : Vec Ideal S256x128 .f32) (x1 : Vec Ideal S2752x512 .i8) (x2 : Vec Ideal S43x512 .f32)
    (t : Fin 256) (j : Fin 512) (r : EReal) (h : ∀ l : Fin 128, rp (ix2 t l) = r) :
    yBlock (F := Ideal) xc rp x1 x2 (ix2 t j)
      = gelu ((∑ g : Fin 43, (∑ k : Fin 128, xc (ix2 t ⟨g.val * 128 + k.val, by omega⟩)
          * FloatOps.sitofp (F := Ideal) FTy.bf16 (kNib (x1 (ix2 ⟨(g.val * 128 + k.val) / 2, by omega⟩ j)) ((g.val * 128 + k.val) % 2)))
        * x2 (ix2 g j)) * r) := by
  unfold yBlock
  rw [gelu_apply, scaled_apply _ _ _ _ r h, acc_apply]
  refine congrArg (fun s => gelu (s * r)) (Finset.sum_congr rfl fun g _ => ?_)
  rw [term_apply]

end Cert.KernelIdeal.Val

end
-- ==== Proof.KArr.lean ====
module

public import proofs.«01_k».proof.Proof.Run
public import proofs.«01_k».proof.Proof.KVal
public import Idealize.ShloMosaic.Lib.Pipeline.Value
public import Idealize.ShloMosaic.Lib.Pipeline.ValueKit
public import Idealize.ShloMosaic.Lib.StableHlo.RunRead
public import Idealize.ShloMosaic.Lib.Pointwise

@[expose] public section

set_option maxRecDepth 16384

noncomputable section

namespace Cert.KernelIdeal.Val

open Cert.KernelIdeal Cert.KernelIdeal.Gen Cert.KernelIdeal.Facts Cert.Expo
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## The arrays the pipeline finds -/

/-- The activations without their leading unit axis. -/
theorem V_v0 (c : Dev nD) : V m c main_v0 = shapeCast S256x5504 (m ((c : Thread nD τ).loc main_arg0)) shapeCasts_S1x256x5504_S256x5504 := by
  unfold_abbrev_sides
  after_results
  try rfl

/-- The packed weights, transposed. -/
theorem V_v1 (c : Dev nD) : V m c main_v1 = transpose S2752x3584 [1, 0] (m ((c : Thread nD τ).loc main_arg1)) transposes_S3584x2752_S2752x3584_1_0 := by
  unfold_abbrev_sides
  after_results
  try rfl

/-- The group scales, transposed. -/
theorem V_v2 (c : Dev nD) : V m c main_v2 = transpose S43x3584 [1, 0] (m ((c : Thread nD τ).loc main_arg2)) transposes_S3584x43_S43x3584_1_0 := by
  unfold_abbrev_sides
  after_results
  try rfl

/-! ## The windows' block indices -/

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

theorem col_lt (t : Fin cfg0.N) (j : Fin 512) : 512 * t.val + j.val < 3584 := by have := N7 t; omega

/-! ## The input blocks, read from the arguments -/

theorem cast_apply (x : FVec Ideal S1x256x5504 .bf16) (t : Fin 256) (k : Fin 5504) :
    shapeCast S256x5504 x shapeCasts_S1x256x5504_S256x5504 (ix2 t k) = x (ix3 0 t k) := by
  pointwise

theorem xs₀_apply (c : Dev nD) (t : Fin 256) (k : Fin 5504) :
    xs₀ m c (ix2 t k) = m ((c : Thread nD τ).loc main_arg0) (ix3 0 t k) := by
  have h : xs₀ m c (ix2 t k) = V m c main_v0 (ix2 t k) := by
    unfold xs₀
    blk_ext [iblk, idx0]
  rw [h, V_v0]
  exact cast_apply _ t k

theorem iblk1_apply (c : Dev nD) (t : Fin cfg0.N) (k : Fin 2752) (j : Fin 512) :
    iblk m c 1 t (ix2 k j) = m ((c : Thread nD τ).loc main_arg1) (ix2 ⟨512 * t.val + j.val, col_lt t j⟩ k) := by
  have h : iblk m c 1 t (ix2 k j) = V m c main_v1 (ix2 k ⟨512 * t.val + j.val, col_lt t j⟩) := by
    blk_ext [iblk, idx1]
  rw [h, V_v1]
  pointwise

theorem iblk2_apply (c : Dev nD) (t : Fin cfg0.N) (g : Fin 43) (j : Fin 512) :
    iblk m c 2 t (ix2 g j) = m ((c : Thread nD τ).loc main_arg2) (ix2 ⟨512 * t.val + j.val, col_lt t j⟩ g) := by
  have h : iblk m c 2 t (ix2 g j) = V m c main_v2 (ix2 g ⟨512 * t.val + j.val, col_lt t j⟩) := by
    blk_ext [iblk, idx2]
  rw [h, V_v2]
  pointwise

/-! ## The result arrays -/

/-- The activations of row `t`. -/
def xrow (a0 : S1x256x5504.Idx → EReal) (t : Fin 256) (k : Fin 5504) : EReal := a0 (ix3 0 t k)

/-- The first result at row `t`, output feature `n`, as a function of the arguments: the codes of row `t` against the
    signed nibbles of weight row `n`, each group's dot product times its scale, summed, times the row's scale, through GELU. -/
def yAt (a0 : S1x256x5504.Idx → EReal) (a1 : S3584x2752.Idx → BitVec 8) (a2 : S3584x43.Idx → EReal) (t : Fin 256) (n : Fin 3584) : EReal :=
  gelu ((∑ g : Fin 43, (∑ k : Fin 128,
      code (xrow a0 t ⟨g.val * 128 + k.val, by omega⟩) (kInv (rowMax (xrow a0 t)))
        * FloatOps.sitofp (F := Ideal) FTy.bf16 (kNib (a1 (ix2 n ⟨(g.val * 128 + k.val) / 2, by omega⟩)) ((g.val * 128 + k.val) % 2)))
      * a2 (ix2 n g)) * kScale (rowMax (xrow a0 t)))

theorem rowMax_xs₀ (c : Dev nD) (t : Fin 256) :
    rowMax (fun k => xs₀ m c (ix2 t k)) = rowMax (xrow (m ((c : Thread nD τ).loc main_arg0)) t) :=
  congrArg rowMax (funext fun k => xs₀_apply m c t k)

theorem codes_xs₀ (c : Dev nD) (t : Fin 256) (k : Fin 5504) :
    codes (xs₀ m c) (ix2 t k) = code (xrow (m ((c : Thread nD τ).loc main_arg0)) t k) (kInv (rowMax (xrow (m ((c : Thread nD τ).loc main_arg0)) t))) := by
  rw [codes_apply, rowMax_xs₀, xs₀_apply]; rfl

theorem final3 (c : Dev nD) : (dats m 0 c).arrAt 3 cfg0.N
    = fun i : S256x3584.Idx => yAt (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  obtain ⟨a, b, rfl⟩ : ∃ (a : Fin 256) (b : Fin 512), y = ix2 a b := ⟨y 0, y 1, eq_ix2 y⟩
  have e0 : (win0_3.blk t).view.emb (ix2 a b) 0 = a := by
    apply Fin.ext; blk_simp [idx3]
  have e1 : (win0_3.blk t).view.emb (ix2 a b) 1 = ⟨512 * t.val + b.val, col_lt t b⟩ := by
    apply Fin.ext; show _ = 512 * t.val + b.val; blk_simp [idx3]; omega
  rw [e0, e1]
  refine (yBlock_apply _ _ _ _ a b _ (fun l => rep_apply _ a l)).trans ?_
  unfold yAt
  rw [rowMax_xs₀]
  simp only [codes_xs₀, iblk1_apply, iblk2_apply]
  rfl

theorem final4 (c : Dev nD) : (dats m 0 c).arrAt 4 cfg0.N
    = fun i : S256x5504.Idx => code (xrow (m ((c : Thread nD τ).loc main_arg0)) (i 0) (i 1)) (kInv (rowMax (xrow (m ((c : Thread nD τ).loc main_arg0)) (i 0)))) := by
  refine (dats m 0 c).arrAt_eq_of_covers 4 _ (by decide +kernel) fun t hf y => ?_
  blk_simp
  rw [after0_4]
  obtain ⟨a, b, rfl⟩ : ∃ (a : Fin 256) (b : Fin 5504), y = ix2 a b := ⟨y 0, y 1, eq_ix2 y⟩
  have e0 : (win0_4.blk t).view.emb (ix2 a b) 0 = a := by
    apply Fin.ext; blk_simp [idx4]
  have e1 : (win0_4.blk t).view.emb (ix2 a b) 1 = b := by
    apply Fin.ext; blk_simp [idx4]
  rw [e0, e1]
  exact codes_xs₀ m c a b

theorem final5 (c : Dev nD) : (dats m 0 c).arrAt 5 cfg0.N
    = fun i : S1x256.Idx => kScale (rowMax (xrow (m ((c : Thread nD τ).loc main_arg0)) (i 1))) := by
  refine (dats m 0 c).arrAt_eq_of_covers 5 _ (by decide +kernel) fun t hf y => ?_
  blk_simp
  rw [after0_5]
  obtain ⟨a, rfl⟩ : ∃ (a : Fin 256), y = ix2 0 a := ⟨y 1, by rw [eq_ix2 y]; congr 1; exact Subsingleton.elim (α := Fin 1) _ _⟩
  have e1 : (win0_5.blk t).view.emb (ix2 0 a) 1 = a := by
    apply Fin.ext; blk_simp [idx5]
  rw [e1, row_apply, rowMax_xs₀]

/-- The run: each result array at its function of the arguments, the arguments unchanged. -/
theorem run_values : θ_run defs (onTc (τ := τ) (main (F := Ideal))) ⟨m, fun _ => 0, ρ⟩ (fun r => ∀ c : Dev nD,
      r.2.mem ((c.tc : Thread nD τ).loc main_v3_0) = (fun i : S256x3584.Idx => yAt (m ((c : Thread nD τ).loc main_arg0)) (m ((c : Thread nD τ).loc main_arg1)) (m ((c : Thread nD τ).loc main_arg2)) (i 0) (i 1))
      ∧ r.2.mem ((c.tc : Thread nD τ).loc main_v3_1) = (fun i : S256x5504.Idx => code (xrow (m ((c : Thread nD τ).loc main_arg0)) (i 0) (i 1)) (kInv (rowMax (xrow (m ((c : Thread nD τ).loc main_arg0)) (i 0)))))
      ∧ r.2.mem ((c.tc : Thread nD τ).loc main_v3_2) = (fun i : S1x256.Idx => kScale (rowMax (xrow (m ((c : Thread nD τ).loc main_arg0)) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), ((h.1 c).1 5).trans (final5 m c), h.2.1 c⟩)
    (θ_run_and (run_main m ρ) (frame_main m ρ))

end Cert.KernelIdeal.Val

end
-- ==== Proof.RExp.lean ====
module

public import proofs.«01_k».proof.Proof.KVal
public import proofs.«01_k».proof.Proof.Gen.ReferenceIdeal.Skeleton

@[expose] public section

set_option maxRecDepth 16384

noncomputable section

namespace Cert.ReferenceIdeal.Val

open Idealize.ShloMosaic Idealize.ShloMosaic.TcCoe
open Cert.ReferenceIdeal.Gen Cert.ReferenceIdeal.Facts Cert.Expo
open Cert.KernelIdeal.Val (rowMax gelu code)

theorem exp_apply (x : Vec Ideal S1x256x5504 .bf16) (t : Fin 256) :
    k0_pay4 (F := Ideal) x (ix2 0 t) = rExp (rowMax fun k => x (ix3 0 t k)) := by
  pointwise [k0_pay4, k0_pay3]
  rfl

end Cert.ReferenceIdeal.Val

end
-- ==== Proof.RVal.lean ====
module

public import proofs.«01_k».proof.Proof.RExp

@[expose] public section

set_option maxRecDepth 16384

noncomputable section

namespace Cert.ReferenceIdeal.Val

open Idealize.ShloMosaic Idealize.ShloMosaic.TcCoe
open Cert.ReferenceIdeal.Gen Cert.ReferenceIdeal.Facts Cert.Expo
open Cert.KernelIdeal.Val (rowMax gelu code)

theorem scale_apply (x : Vec Ideal S1x256x5504 .bf16) (t : Fin 256) :
    k0_pay5 (F := Ideal) x (ix2 0 t) = Ideal.exp2 (rExp (rowMax fun k => x (ix3 0 t k))) := by
  rw [← exp_apply x t]
  unfold k0_pay5
  generalize k0_pay4 x = e
  rfl

/-- The inverse scales, repeated along the rows. -/
def invs (x : Vec Ideal S1x256x5504 .bf16) : FVec Ideal S1x256 .f32 :=
  exp2 (subf (broadcast S1x256 (Scalar.ofBits (F := Ideal) .f32 0x00000000#32)) (k0_pay4 x))

theorem invs_apply (x : Vec Ideal S1x256x5504 .bf16) (t : Fin 256) :
    invs x (ix2 0 t) = Ideal.exp2 (0 - rExp (rowMax fun k => x (ix3 0 t k))) := by
  rw [← exp_apply x t]
  unfold invs
  generalize k0_pay4 x = e
  pointwise
  rfl

theorem bc_apply (v31 : FVec Ideal S1x256 .f32) (t : Fin 256) (k : Fin 5504) :
    broadcastTo S1x256x5504 (shapeCast S1x256x1 v31 shapeCasts_S1x256_S1x256x1) broadcasts_S1x256x1_S1x256x5504 (ix3 0 t k) = v31 (ix2 0 t) := by
  pointwise

/-- The codes of the reference. -/
theorem codes_apply (x : Vec Ideal S1x256x5504 .bf16) (t : Fin 256) (k : Fin 5504) :
    k0_pay6 (F := Ideal) x (ix3 0 t k) = code (x (ix3 0 t k)) (Ideal.exp2 (0 - rExp (rowMax fun k => x (ix3 0 t k)))) := by
  rw [← invs_apply x t, ← bc_apply (invs x) t k]
  unfold k0_pay6
  rw [show exp2 (subf (broadcast S1x256 (Scalar.ofBits (F := Ideal) .f32 0x00000000#32)) (k0_pay4 x)) = invs x from rfl]
  generalize broadcastTo _ _ _ = b
  pointwise [k0_pay3]
  rfl

theorem codes2_apply (v39 : FVec Ideal S1x256x5504 .fp8e4m3) (t : Fin 256) (k : Fin 5504) :
    k0_pay2 (F := Ideal) v39 (ix2 t k) = v39 (ix3 0 t k) := by
  pointwise [k0_pay2]

/-! ### The contraction -/

/-- The products of the groups. -/
def prods (v39 : FVec Ideal S1x256x5504 .fp8e4m3) (v40 : Vec Ideal S3584x5504 .i32) : FVec Ideal S43x256x3584 .f32 :=
  matmul dot_S256x43x128_S3584x43x128_S43x256x3584_2_2_0_0_1_1 none
    (shapeCast S256x43x128 v39 shapeCasts_S1x256x5504_S256x43x128 : FVec Ideal S256x43x128 .fp8e4m3)
    (shapeCast S3584x43x128
      (truncf .fp8e4m3 (sitofp .bf16 (shapeCast S3584x5504 v40 shapeCasts_S3584x5504_S3584x5504)) bitsLt_fp8e4m3_bf16 : FVec Ideal S3584x5504 .fp8e4m3)
      shapeCasts_S3584x5504_S3584x43x128 : FVec Ideal S3584x43x128 .fp8e4m3)
    (constant S43x256x3584 .f32 0x00000000#32)

theorem prods_apply (v39 : FVec Ideal S1x256x5504 .fp8e4m3) (v40 : Vec Ideal S3584x5504 .i32) (g : Fin 43) (t : Fin 256) (n : Fin 3584) :
    prods v39 v40 (ix3 g t n)
      = ∑ k : Fin 128, v39 (ix3 0 t ⟨g.val * 128 + k.val, by omega⟩)
          * FloatOps.sitofp (F := Ideal) FTy.bf16 (v40 (ix2 n ⟨g.val * 128 + k.val, by omega⟩)) := by
  pointwise [prods]

/-- The scaled sum of the groups, tokens by channels. -/
def sums (v28 : FVec Ideal S1x256 .f32) (p : FVec Ideal S43x256x3584 .f32) (v47 : Vec Ideal S3584x43 .f32) : FVec Ideal S256x3584 .f32 :=
  mulf
    (transpose S256x3584 [1, 0]
      (matmul (φ₁ := .f32) dot_S3584x43_S43x256x3584_S3584x256_1_0_n_1_0_2 none (v47 : FVec Ideal S3584x43 .f32) p (constant S3584x256 .f32 0x00000000#32))
      transposes_S3584x256_p1_0_S256x3584)
    (broadcastTo S256x3584 (shapeCast S256x1 v28 shapeCasts_S1x256_S256x1) broadcasts_S256x1_S256x3584)

theorem sums_apply (v28 : FVec Ideal S1x256 .f32) (p : FVec Ideal S43x256x3584 .f32) (v47 : Vec Ideal S3584x43 .f32) (t : Fin 256) (n : Fin 3584) :
    sums v28 p v47 (ix2 t n) = ((∑ g : Fin 43, v47 (ix2 n g) * p (ix3 g t n)) * v28 (ix2 0 t) : EReal) := by
  pointwise [sums]

/-- The first result of the reference at an index. -/
theorem y_apply (v28 : FVec Ideal S1x256 .f32) (v39 : FVec Ideal S1x256x5504 .fp8e4m3) (v40 : Vec Ideal S3584x5504 .i32) (v47 : Vec Ideal S3584x43 .f32)
    (t : Fin 256) (n : Fin 3584) :
    k0_pay1 (F := Ideal) v28 v39 v40 v47 (ix2 t n)
      = gelu ((∑ g : Fin 43, v47 (ix2 n g) * ∑ k : Fin 128, v39 (ix3 0 t ⟨g.val * 128 + k.val, by omega⟩)
          * FloatOps.sitofp (F := Ideal) FTy.bf16 (v40 (ix2 n ⟨g.val * 128 + k.val, by omega⟩))) * v28 (ix2 0 t)) := by
  have h : k0_pay1 (F := Ideal) v28 v39 v40 v47 (ix2 t n) = gelu (sums v28 (prods v39 v40) v47 (ix2 t n)) := by
    unfold k0_pay1 sums prods
    dsimp only
    generalize mulf (F := Ideal) (transpose S256x3584 _ _ _) _ = v
    pointwise
    rfl
  rw [h, sums_apply]
  simp only [prods_apply]

end Cert.ReferenceIdeal.Val

end
-- ==== Proof.RArr.lean ====
module

public import proofs.«01_k».proof.Proof.RVal
public import proofs.«01_k».proof.Proof.KArr
public import proofs.«01_k».proof.Proof.Gen.ReferenceIdeal.Frame
public import Idealize.ShloMosaic.Lib.Pipeline.Value
public import Idealize.ShloMosaic.Lib.Pipeline.ValueKit
public import Idealize.ShloMosaic.Lib.StableHlo.RunRead
public import Idealize.ShloMosaic.Lib.Pointwise

@[expose] public section

set_option maxRecDepth 16384

noncomputable section

namespace Cert.ReferenceIdeal.Val

open Cert.ReferenceIdeal Cert.ReferenceIdeal.Gen Cert.ReferenceIdeal.Facts Cert.Expo
open Cert.KernelIdeal.Val (rowMax gelu code kNib xrow yAt)
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## The unpacked weights -/

/-- The low nibbles of the widened bytes, each above seven brought below zero. -/
def lowNib (w : IVec S3584x2752 32) : IVec S3584x2752 32 :=
  select (cmpi .sge (andi w (broadcastInDim S3584x2752 ![] bcast_S_S3584x2752 (constantI S_ 32 15#32))) (broadcastInDim S3584x2752 ![] bcast_S_S3584x2752 (constantI S_ 32 8#32)))
    (subi (andi w (broadcastInDim S3584x2752 ![] bcast_S_S3584x2752 (constantI S_ 32 15#32))) (broadcastInDim S3584x2752 ![] bcast_S_S3584x2752 (constantI S_ 32 16#32)))
    (andi w (broadcastInDim S3584x2752 ![] bcast_S_S3584x2752 (constantI S_ 32 15#32)))

/-- The high nibbles, likewise. -/
def highNib (w : IVec S3584x2752 32) : IVec S3584x2752 32 :=
  select (cmpi .sge (Host.shrsi w (broadcastInDim S3584x2752 ![] bcast_S_S3584x2752 (constantI S_ 32 4#32))) (broadcastInDim S3584x2752 ![] bcast_S_S3584x2752 (constantI S_ 32 8#32)))
    (subi (Host.shrsi w (broadcastInDim S3584x2752 ![] bcast_S_S3584x2752 (constantI S_ 32 4#32))) (broadcastInDim S3584x2752 ![] bcast_S_S3584x2752 (constantI S_ 32 16#32)))
    (Host.shrsi w (broadcastInDim S3584x2752 ![] bcast_S_S3584x2752 (constantI S_ 32 4#32)))

/-- Low and high nibbles interleaved. -/
def weave (a b : IVec S3584x2752 32) : IVec S3584x5504 32 :=
  shapeCast S3584x5504 (concatenate S3584x2752x2 2
    [⟨S3584x2752x1, broadcastInDim S3584x2752x1 ![0, 1] bcast_S3584x2752_S3584x2752x1_0_1 a⟩, ⟨S3584x2752x1, broadcastInDim S3584x2752x1 ![0, 1] bcast_S3584x2752_S3584x2752x1_0_1 b⟩]
    concatenates_S3584x2752x1_S3584x2752x1_S3584x2752x2_d2) shapeCasts_S3584x2752x2_S3584x5504

set_option maxHeartbeats 1600000 in
/-- What the host hands the body as weights. -/
theorem V_v18 (c : Dev nD) : V m c main_v18
    = weave (lowNib (extui 32 (m ((c : Thread nD τ).loc main_arg1)) natLt_8_32)) (highNib (extui 32 (m ((c : Thread nD τ).loc main_arg1)) natLt_8_32)) := by
  unfold_abbrev_sides
  simp only [List.flatten_cons, List.flatten_nil, List.append_nil]
  after_reads_simp
  rfl

theorem lowNib_apply (w : IVec S3584x2752 8) (n : Fin 3584) (p : Fin 2752) :
    lowNib (extui 32 w natLt_8_32) (ix2 n p) = kNib (w (ix2 n p)) 0 := by
  pointwise [lowNib]
  generalize w (ix2 n p) = b
  revert b
  decide +kernel

theorem highNib_apply (w : IVec S3584x2752 8) (n : Fin 3584) (p : Fin 2752) :
    highNib (extui 32 w natLt_8_32) (ix2 n p) = kNib (w (ix2 n p)) 1 := by
  pointwise [highNib]
  generalize w (ix2 n p) = b
  revert b
  decide +kernel

theorem weave_apply (a b : IVec S3584x2752 32) (n : Fin 3584) (k : Fin 5504) :
    weave a b (ix2 n k) = if k.val % 2 < 1 then a (ix2 n ⟨k.val / 2, by omega⟩) else b (ix2 n ⟨k.val / 2, by omega⟩) := by
  pointwise [weave]
  by_cases h : k.val % 2 < 1
  · rw [dif_pos h, if_pos h]
  · rw [dif_neg h, if_neg h]

theorem kNib_one (b : BitVec 8) (h : Nat) (hh : ¬ h < 1) : kNib b h = kNib b 1 := by
  unfold kNib; rw [if_neg hh, if_neg (by decide)]
theorem kNib_zero (b : BitVec 8) (h : Nat) (hh : h < 1) : kNib b h = kNib b 0 := by
  unfold kNib; rw [if_pos hh, if_pos (by decide)]

/-- The weight word at `(n, k)` is the signed nibble `k % 2` of byte `k / 2` of row `n`. -/
theorem V_v18_apply (c : Dev nD) (n : Fin 3584) (k : Fin 5504) :
    V m c main_v18 (ix2 n k) = kNib (m ((c : Thread nD τ).loc main_arg1) (ix2 n ⟨k.val / 2, by omega⟩)) (k.val % 2) := by
  rw [V_v18]
  refine (weave_apply _ _ n k).trans ?_
  by_cases h : k.val % 2 < 1
  · rw [if_pos h, kNib_zero _ _ h]; exact lowNib_apply _ _ _
  · rw [if_neg h, kNib_one _ _ h]; exact highNib_apply _ _ _

/-! ## The input blocks: the whole arrays -/

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

theorem iblk0_apply (c : Dev nD) (t : Fin cfg0.N) (a : Fin 256) (k : Fin 5504) :
    iblk m c 0 t (ix3 0 a k) = m ((c : Thread nD τ).loc main_arg0) (ix3 0 a k) := by
  have h : iblk m c 0 t (ix3 0 a k) = V m c main_arg0 (ix3 0 a k) := by
    blk_ext [iblk, idx0]
  rw [h, V_main_arg0]

theorem iblk1_apply (c : Dev nD) (t : Fin cfg0.N) (n : Fin 3584) (k : Fin 5504) :
    iblk m c 1 t (ix2 n k) = kNib (m ((c : Thread nD τ).loc main_arg1) (ix2 n ⟨k.val / 2, by omega⟩)) (k.val % 2) := by
  have h : iblk m c 1 t (ix2 n k) = V m c main_v18 (ix2 n k) := by
    blk_ext [iblk, idx1]
  rw [h, V_v18_apply]

theorem iblk2_apply (c : Dev nD) (t : Fin cfg0.N) (n : Fin 3584) (g : Fin 43) :
    iblk m c 2 t (ix2 n g) = m ((c : Thread nD τ).loc main_arg2) (ix2 n g) := by
  have h : iblk m c 2 t (ix2 n g) = V m c main_arg2 (ix2 n g) := by
    blk_ext [iblk, idx2]
  rw [h, V_main_arg2]

/-! ## The result arrays -/

theorem hz2 : (![0, 0] : Fin 2 → Nat) = fun _ => 0 := funext fun a => by fin_cases a <;> rfl
theorem hz3 : (![0, 0, 0] : Fin 3 → Nat) = fun _ => 0 := funext fun a => by fin_cases a <;> rfl

theorem pay7_eq (x0 x1 x2) : k0_pay7 (F := Ideal) x0 x1 x2 = k0_pay5 x0 := by
  unfold k0_pay7; rw [View.ld_unit_zero hz3]
theorem pay8_eq (x0 x1 x2) : k0_pay8 (F := Ideal) x0 x1 x2 = k0_pay6 x0 := by
  unfold k0_pay8; rw [View.ld_unit_zero hz3]

theorem out3_eq (x0 x1 x2) : out0_3 (F := Ideal) x0 x1 x2 = k0_pay1 (k0_pay5 x0) (k0_pay6 x0) x1 x2 := by
  unfold out0_3; rw [View.canon_unit_zero hz2, View.ld_unit_zero hz2, View.ld_unit_zero hz2, pay7_eq, pay8_eq]
theorem out4_eq (x0 x1 x2) : out0_4 (F := Ideal) x0 x1 x2 = k0_pay2 (k0_pay6 x0) := by
  unfold out0_4; rw [View.canon_unit_zero hz2, pay8_eq]
theorem out5_eq (x0 x1 x2) : out0_5 (F := Ideal) x0 x1 x2 = k0_pay5 x0 := by
  unfold out0_5; rw [View.canon_unit_zero hz2, pay7_eq]

theorem rowMax_iblk (c : Dev nD) (t : Fin cfg0.N) (a : Fin 256) :
    rowMax (fun k => iblk m c 0 t (ix3 0 a k)) = rowMax (xrow (m ((c : Thread nD τ).loc main_arg0)) a) :=
  congrArg rowMax (funext fun k => iblk0_apply m c t a k)

/-- The scale's exponent of row `a`. -/
abbrev eAt (c : Dev nD) (a : Fin 256) : EReal := rExp (rowMax (xrow (m ((c : Thread nD τ).loc main_arg0)) a))

theorem codes_iblk (c : Dev nD) (t : Fin cfg0.N) (a : Fin 256) (k : Fin 5504) :
    k0_pay6 (F := Ideal) (iblk m c 0 t) (ix3 0 a k) = code (xrow (m ((c : Thread nD τ).loc main_arg0)) a k) (Ideal.exp2 (0 - eAt m c a)) := by
  rw [codes_apply, rowMax_iblk, iblk0_apply]; rfl

theorem scale_iblk (c : Dev nD) (t : Fin cfg0.N) (a : Fin 256) :
    k0_pay5 (F := Ideal) (iblk m c 0 t) (ix2 0 a) = Ideal.exp2 (eAt m c a) := by
  rw [scale_apply, rowMax_iblk]

/-- The first result at row `t`, output feature `n`, as the reference computes it. -/
def yRef (a0 : S1x256x5504.Idx → EReal) (a1 : S3584x2752.Idx → BitVec 8) (a2 : S3584x43.Idx → EReal) (t : Fin 256) (n : Fin 3584) : EReal :=
  gelu ((∑ g : Fin 43, a2 (ix2 n g) * ∑ k : Fin 128,
        code (xrow a0 t ⟨g.val * 128 + k.val, by omega⟩) (Ideal.exp2 (0 - rExp (rowMax (xrow a0 t))))
          * FloatOps.sitofp (F := Ideal) FTy.bf16 (kNib (a1 (ix2 n ⟨(g.val * 128 + k.val) / 2, by omega⟩)) ((g.val * 128 + k.val) % 2)))
        * Ideal.exp2 (rExp (rowMax (xrow a0 t))))

theorem final3 (c : Dev nD) : (dats m 0 c).arrAt 3 cfg0.N
    = fun i : S256x3584.Idx => yRef (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3, out3_eq]
  obtain ⟨a, b, rfl⟩ : ∃ (a : Fin 256) (b : Fin 3584), y = ix2 a b := ⟨y 0, y 1, eq_ix2 y⟩
  have e0 : (win0_3.blk t).view.emb (ix2 a b) 0 = a := by
    apply Fin.ext; blk_simp [idx3]
  have e1 : (win0_3.blk t).view.emb (ix2 a b) 1 = b := by
    apply Fin.ext; blk_simp [idx3]
  rw [e0, e1]
  refine (y_apply _ _ _ _ a b).trans ?_
  simp only [codes_iblk, scale_iblk, iblk1_apply, iblk2_apply]
  rfl

theorem final4 (c : Dev nD) : (dats m 0 c).arrAt 4 cfg0.N
    = fun i : S256x5504.Idx => code (xrow (m ((c : Thread nD τ).loc main_arg0)) (i 0) (i 1)) (Ideal.exp2 (0 - eAt m c (i 0))) := by
  refine (dats m 0 c).arrAt_eq_of_covers 4 _ (by decide +kernel) fun t hf y => ?_
  blk_simp
  rw [after0_4, out4_eq]
  obtain ⟨a, b, rfl⟩ : ∃ (a : Fin 256) (b : Fin 5504), y = ix2 a b := ⟨y 0, y 1, eq_ix2 y⟩
  have e0 : (win0_4.blk t).view.emb (ix2 a b) 0 = a := by
    apply Fin.ext; blk_simp [idx4]
  have e1 : (win0_4.blk t).view.emb (ix2 a b) 1 = b := by
    apply Fin.ext; blk_simp [idx4]
  rw [e0, e1]
  exact (codes2_apply _ a b).trans (codes_iblk m c t a b)

theorem final5 (c : Dev nD) : (dats m 0 c).arrAt 5 cfg0.N
    = fun i : S1x256.Idx => Ideal.exp2 (eAt m c (i 1)) := by
  refine (dats m 0 c).arrAt_eq_of_covers 5 _ (by decide +kernel) fun t hf y => ?_
  blk_simp
  rw [after0_5, out5_eq]
  obtain ⟨a, rfl⟩ : ∃ (a : Fin 256), y = ix2 0 a := ⟨y 1, by rw [eq_ix2 y]; congr 1; exact Subsingleton.elim (α := Fin 1) _ _⟩
  have e1 : (win0_5.blk t).view.emb (ix2 0 a) 1 = a := by
    apply Fin.ext; blk_simp [idx5]
  rw [e1]
  exact scale_iblk m c t a

/-- The run: each result array at its function of the arguments, the arguments unchanged. -/
theorem run_values : θ_run defs (onTc (τ := τ) (main (F := Ideal))) ⟨m, fun _ => 0, ρ⟩ (fun r => ∀ c : Dev nD,
      r.2.mem ((c.tc : Thread nD τ).loc main_v19_0) = (fun i : S256x3584.Idx => yRef (m ((c : Thread nD τ).loc main_arg0)) (m ((c : Thread nD τ).loc main_arg1)) (m ((c : Thread nD τ).loc main_arg2)) (i 0) (i 1))
      ∧ r.2.mem ((c.tc : Thread nD τ).loc main_v19_1) = (fun i : S256x5504.Idx => code (xrow (m ((c : Thread nD τ).loc main_arg0)) (i 0) (i 1)) (Ideal.exp2 (0 - rExp (rowMax (xrow (m ((c : Thread nD τ).loc main_arg0)) (i 0))))))
      ∧ r.2.mem ((c.tc : Thread nD τ).loc main_v19_2) = (fun i : S1x256.Idx => Ideal.exp2 (rExp (rowMax (xrow (m ((c : Thread nD τ).loc main_arg0)) (i 1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), ((h.1 c).1 5).trans (final5 m c), h.2 c⟩)
    (θ_run_and (run_main m ρ) (unchanged m ρ))

end Cert.ReferenceIdeal.Val

end
-- ==== Proof.Pre.lean ====
module

public import proofs.«01_k».proof.Pre_bf16_values
public import proofs.«01_k».proof.Proof.Expo
public import proofs.«01_k».proof.Proof.KVal
public import Idealize.ShloMosaic.Lib.ReduceAll
public import Idealize.ShloMosaic.Lib.Pointwise

@[expose] public section

set_option maxRecDepth 16384

noncomputable section

namespace Cert.Pre_bf16_values

open Idealize.ShloMosaic
open Cert.KernelIdeal.Val (rowMax)

instance facts : Facts where
  bitsLt_bf16_f32 := by decide
  bcast_S_S1x256x5504 := by decide
  reducesTo_S1x256x5504_S_d0_1_2 := by decide
  h_S_ := by decide

variable [Facts]
open Facts

/-- The mask the predicate folds: where an entry is at most the largest finite number, or infinite, in absolute value. -/
def mask (x : FVec Ideal S1x256x5504 .bf16) : IVec S1x256x5504 1 :=
  ori (cmpf .ole (Host.absf (extf .f32 x bitsLt_bf16_f32)) (broadcastInDim S1x256x5504 ![] bcast_S_S1x256x5504 (constant S_ .f32 0x7F7F0000#32)))
    (cmpf .oeq (Host.absf (extf .f32 x bitsLt_bf16_f32)) (broadcastInDim S1x256x5504 ![] bcast_S_S1x256x5504 (constant S_ .f32 0x7F800000#32)))

theorem fn_eq (x : FVec Ideal S1x256x5504 .bf16) (w : IVec S3584x2752 8) (s : FVec Ideal S3584x43 .f32) :
    fn (F := Ideal) x w s = Host.reduce IntOp.andi (mask x) (constantI S_ 1 1#1) reducesTo_S1x256x5504_S_d0_1_2 h_S_ := by
  unfold fn mask
  with_reducible rfl

theorem mask_of_fn (x : FVec Ideal S1x256x5504 .bf16) (w : IVec S3584x2752 8) (s : FVec Ideal S3584x43 .f32)
    (h : fn (F := Ideal) x w s = fun _ => 1#1) (i : S1x256x5504.Idx) : mask x i = 1#1 := by
  haveI : Subsingleton S_.Idx := ⟨fun a b => funext fun k => k.elim0⟩
  rw [fn_eq] at h
  generalize mask x = p at h
  exact Host.reduce_andi_all p (constantI S_ 1 1#1) reducesTo_S1x256x5504_S_d0_1_2 h_S_ (fun k => k.elim0) (congrFun h _) i

theorem mask_apply (x : FVec Ideal S1x256x5504 .bf16) (t : Fin 256) (k : Fin 5504) :
    mask x (ix3 0 t k) = IntOp.ori (BitVec.ofBool (decide (FloatOps.absf (F := Ideal) (φ := .f32) (x (ix3 0 t k)) ≤ Ideal.ofBits FTy.f32 0x7F7F0000#32)))
      (BitVec.ofBool (decide (FloatOps.absf (F := Ideal) (φ := .f32) (x (ix3 0 t k)) = Ideal.ofBits FTy.f32 2139095040#32))) := by
  pointwise [mask]

theorem or_one : ∀ p q : Bool, IntOp.ori (BitVec.ofBool p) (BitVec.ofBool q) = 1#1 → p = true ∨ q = true := by decide

/-- Each entry is at most the largest finite number, or infinite, in absolute value. -/
theorem entry (x : FVec Ideal S1x256x5504 .bf16) (w : IVec S3584x2752 8) (s : FVec Ideal S3584x43 .f32)
    (h : fn (F := Ideal) x w s = fun _ => 1#1) (t : Fin 256) (k : Fin 5504) :
    FloatOps.absf (F := Ideal) (φ := .f32) (x (ix3 0 t k)) = ⊤
      ∨ FloatOps.absf (F := Ideal) (φ := .f32) (x (ix3 0 t k)) ≤ Ideal.ofBits FTy.f32 0x7F7F0000#32 := by
  have e := mask_of_fn x w s h (ix3 0 t k)
  rw [mask_apply] at e
  rcases or_one _ _ e with h1 | h1
  · exact .inr (of_decide_eq_true h1)
  · exact .inl ((of_decide_eq_true h1).trans Cert.Expo.inf_eq)

/-- The largest absolute value of a row is at least zero, and at most the largest finite number or infinite. -/
theorem rowMax_range (x : Fin 5504 → EReal)
    (h : ∀ k, FloatOps.absf (F := Ideal) (φ := .f32) (x k) = ⊤ ∨ FloatOps.absf (F := Ideal) (φ := .f32) (x k) ≤ Ideal.ofBits FTy.f32 0x7F7F0000#32) :
    0 ≤ rowMax x ∧ (rowMax x = ⊤ ∨ rowMax x ≤ Ideal.ofBits FTy.f32 0x7F7F0000#32) := by
  unfold rowMax
  constructor
  · refine (Finset.le_fold_max _).mpr (.inr ⟨0, Finset.mem_univ _, ?_⟩)
    show 0 ≤ max (x 0) (-(x 0))
    rcases le_total 0 (x 0) with h0 | h0
    · exact le_max_of_le_left h0
    · exact le_max_of_le_right (EReal.neg_nonneg.mpr h0)
  · by_cases ht : ∃ k, FloatOps.absf (F := Ideal) (φ := .f32) (x k) = ⊤
    · obtain ⟨k, hk⟩ := ht
      exact .inl (top_le_iff.mp ((Finset.le_fold_max _).mpr (.inr ⟨k, Finset.mem_univ _, hk.ge⟩)))
    · refine .inr ((Finset.fold_max_le _).mpr ⟨?_, fun k _ => (h k).resolve_left fun e => ht ⟨k, e⟩⟩)
      rw [Cert.Expo.ninf_eq]; exact bot_le

end Cert.Pre_bf16_values

end
-- ==== Proof.lean ====
/-
  The claims. The kernel: Proof/Body.lean and Proof/RunA.lean, Proof/RunB.lean (the body at the first and at every
  later grid point), Proof/Run.lean (the pipeline), Proof/KVal.lean (what the body computes, entry by entry),
  Proof/KArr.lean (the result arrays). Proof/Word.lean: the frame of the kernel on words, which is the same program.
  The reference: Proof/RExp.lean, Proof/RVal.lean, Proof/RArr.lean. Proof/Expo.lean: the kernel's scale and inverse
  scale, put together from exponent fields, are the reference's powers of two. Proof/Pre.lean: what the precondition
  says of a row's largest absolute value.
-/
module

public import proofs.«01_k».proof.Defs
public import proofs.«01_k».proof.Proof.Word
public import proofs.«01_k».proof.Proof.KArr
public import proofs.«01_k».proof.Proof.RArr
public import proofs.«01_k».proof.Proof.Pre

@[expose] public section

noncomputable section

namespace Cert.Proof

open Idealize.ShloMosaic Idealize.ShloMosaic.TcCoe Idealize.SL.Sem
open Cert.KernelIdeal.Val (rowMax xrow yAt code)
open Cert.ReferenceIdeal.Val (yRef)
open Cert.Expo

/-- The kernel's first result is the reference's: the same scales, each group's product commuted. -/
theorem y_eq (a0 : Cert.KernelIdeal.S1x256x5504.Idx → EReal) (a1 : Cert.KernelIdeal.S3584x2752.Idx → BitVec 8) (a2 : Cert.KernelIdeal.S3584x43.Idx → EReal)
    (t : Fin 256) (n : Fin 3584)
    (h : kScale (rowMax (xrow a0 t)) = Ideal.exp2 (rExp (rowMax (xrow a0 t))) ∧ kInv (rowMax (xrow a0 t)) = Ideal.exp2 (0 - rExp (rowMax (xrow a0 t)))) :
    yAt a0 a1 a2 t n = yRef a0 a1 a2 t n := by
  unfold yAt yRef
  rw [h.1, h.2]
  congr 2
  exact Finset.sum_congr rfl fun g _ => mul_comm _ _

theorem algebraic : Cert.algebraic_KernelIdeal_ReferenceIdeal_pre_bf16_values
    (hKernelIdeal := Cert.KernelIdeal.Gen.facts) (hReferenceIdeal := Cert.ReferenceIdeal.Gen.facts) (hPre_bf16_values := Cert.Pre_bf16_values.facts) := by
  intro m g m' g' hpre hargs
  have hs : ∀ (c : Dev Cert.KernelIdeal.nD) (t : Fin 256),
      kScale (rowMax (xrow (m ((c : Thread Cert.KernelIdeal.nD Cert.KernelIdeal.τ).loc Cert.KernelIdeal.main_arg0)) t))
          = Ideal.exp2 (rExp (rowMax (xrow (m ((c : Thread Cert.KernelIdeal.nD Cert.KernelIdeal.τ).loc Cert.KernelIdeal.main_arg0)) t)))
        ∧ kInv (rowMax (xrow (m ((c : Thread Cert.KernelIdeal.nD Cert.KernelIdeal.τ).loc Cert.KernelIdeal.main_arg0)) t))
          = Ideal.exp2 (0 - rExp (rowMax (xrow (m ((c : Thread Cert.KernelIdeal.nD Cert.KernelIdeal.τ).loc Cert.KernelIdeal.main_arg0)) t))) := fun c t =>
    have r := Cert.Pre_bf16_values.rowMax_range _ fun k =>
      Cert.Pre_bf16_values.entry _ _ _ (hpre c) t k
    scale_eq _ r.1 r.2
  refine ⟨_, _, _, Cert.KernelIdeal.Val.run_values m g, (θ_run _ _ _).mono (fun r h c => ?_) (Cert.ReferenceIdeal.Val.run_values m' g')⟩
  obtain ⟨h0, h1, h2, h3⟩ := h c
  obtain ⟨ha0, ha1, ha2⟩ := hargs c
  refine ⟨h0.trans ?_, h1.trans ?_, h2.trans ?_, h3⟩
  · funext i
    show yRef _ _ _ (i 0) (i 1) = yAt _ _ _ (i 0) (i 1)
    rw [ha0, ha1, ha2]
    exact (y_eq _ _ _ _ _ (hs c _)).symm
  · funext i
    show code _ (Ideal.exp2 _) = code _ (kInv _)
    rw [(hs c (i 0)).2, ha0]
  · funext i
    show Ideal.exp2 _ = kScale _
    rw [(hs c (i 1)).1, ha0]

theorem claim : Cert.Claim :=
  ⟨Cert.Kernel.Gen.facts, Cert.KernelIdeal.Gen.facts, Cert.ReferenceIdeal.Gen.facts, Cert.Pre_bf16_values.facts,
    Cert.Kernel.Val.frame,
    fun m ρ _ => Cert.KernelIdeal.Val.frame_main m ρ,
    fun m ρ _ => Cert.KernelIdeal.Val.frame_main m ρ,
    fun m ρ _ => Cert.ReferenceIdeal.Gen.frame m ρ,
    fun m ρ _ => Cert.ReferenceIdeal.Gen.frame m ρ,
    trivial,
    algebraic⟩

end Cert.Proof

end
